-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![2, 512, 8, 64]⟩ ⟨4, ![2, 1024, 8, 64]⟩ (Layout.meshBlock [2, 2, 2] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Pre_finite_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_
  h_S_ : 0 < S_.numel

variable [Facts]

def fn {F : FTy → Type} [FloatOps F] (main_arg0 : FVec F S2x1024x8x64 .f32) (main_arg1 : FVec F S2x1024x8x64 .f32) (main_arg2 : FVec F S2x1024x8x64 .f32) : IVec S_ 1 :=
  let main_v0 : FVec F S2x1024x8x64 .f32 := Host.absf main_arg0
  let main_cst : FVec F S_ .f32 := constant S_ .f32 0x7F800000#32
  let main_v1 : FVec F S2x1024x8x64 .f32 := broadcastInDim S2x1024x8x64 ![] bcast_S_S2x1024x8x64 main_cst
  let main_v2 : IVec S2x1024x8x64 1 := cmpf .olt main_v0 main_v1
  let main_c : IVec S_ 1 := constantI S_ 1 1#1
  let main_v3 : IVec S_ 1 := (fun x v => Host.reduce IntOp.andi x v reducesTo_S2x1024x8x64_S_d0_1_2_3 h_S_) main_v2 main_c
  let main_v4 : FVec F S2x1024x8x64 .f32 := Host.absf main_arg1
  let main_cst_0 : FVec F S_ .f32 := constant S_ .f32 0x7F800000#32
  let main_v5 : FVec F S2x1024x8x64 .f32 := broadcastInDim S2x1024x8x64 ![] bcast_S_S2x1024x8x64 main_cst_0
  let main_v6 : IVec S2x1024x8x64 1 := cmpf .olt main_v4 main_v5
  let main_c_1 : IVec S_ 1 := constantI S_ 1 1#1
  let main_v7 : IVec S_ 1 := (fun x v => Host.reduce IntOp.andi x v reducesTo_S2x1024x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x64x512 : Shape := ⟨4, ![2, 8, 64, 512]⟩
abbrev S3 : Shape := ⟨1, ![3]⟩
abbrev S2 : Shape := ⟨1, ![2]⟩
abbrev S8 : Shape := ⟨1, ![8]⟩
abbrev S1 : Shape := ⟨1, ![1]⟩
abbrev S_ : Shape := ⟨0, ![]⟩
abbrev S1x8x64x512 : Shape := ⟨4, ![1, 8, 64, 512]⟩
abbrev S8x64x512 : Shape := ⟨3, ![8, 64, 512]⟩
abbrev S1x1x64x512 : Shape := ⟨4, ![1, 1, 64, 512]⟩
abbrev S64x512 : Shape := ⟨2, ![64, 512]⟩
abbrev S512x512 : Shape := ⟨2, ![512, 512]⟩
abbrev S512 : Shape := ⟨1, ![512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x64x512, .f32⟩
  | .hbm, ⟨4, _⟩ => ⟨S2x8x64x512, .f32⟩
  | .hbm, ⟨5, _⟩ => ⟨S2x8x64x512, .f32⟩
  | .hbm, ⟨6, _⟩ => ⟨S2x8x64x512, .f32⟩
  | .hbm, ⟨7, _⟩ => ⟨S2x512x8x64, .f32⟩
  | .local _ .vmem, ⟨0, _⟩ => ⟨S2x8x64x512, .f32⟩
  | .local _ .vmem, ⟨1, _⟩ => ⟨S2x8x64x512, .f32⟩
  | .local _ .vmem, ⟨2, _⟩ => ⟨S2x8x64x512, .f32⟩
  | .local _ .vmem, ⟨3, _⟩ => ⟨S2x8x64x512, .bf16⟩
  | .local _ .vmem, ⟨4, _⟩ => ⟨S2x8x64x512, .fp8e4m3⟩
  | .local _ .vmem, ⟨5, _⟩ => ⟨S2x8x64x512, .bf16⟩
  | .local _ .vmem, ⟨6, _⟩ => ⟨S2x8x64x512, .fp8e4m3⟩
  | .local _ .vmem, ⟨7, _⟩ => ⟨S2x8x64x512, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_dev1 (d6 : Dev nD) : Nat :=
  let c0_i32_8 : BitVec 32 := 0#32
  let v6 : BitVec 32 := Dev.word d6
  let c4_i32 : BitVec 32 := 4#32
  let v7 : BitVec 32 := Scalar.divsi v6 c4_i32
  let c2_i32_0 : BitVec 32 := 2#32
  let v8 : BitVec 32 := Scalar.remsi v7 c2_i32_0
  let c4_i32_7 : BitVec 32 := 4#32
  let v17 : BitVec 32 := Scalar.muli v8 c4_i32_7
  let v18 : BitVec 32 := Scalar.addi c0_i32_8 v17
  let v9 : BitVec 32 := Dev.word d6
  let c2_i32_2 : BitVec 32 := 2#32
  let v10 : BitVec 32 := Scalar.divsi v9 c2_i32_2
  let c2_i32_1 : BitVec 32 := 2#32
  let v11 : BitVec 32 := Scalar.remsi v10 c2_i32_1
  let c2_i32_9 : BitVec 32 := 2#32
  let v19 : BitVec 32 := Scalar.muli v11 c2_i32_9
  let v20 : BitVec 32 := Scalar.addi v18 v19
  let c1_i32_5 : BitVec 32 := 1#32
  let v12 : BitVec 32 := Dev.word d6
  let c1_i32_4 : BitVec 32 := 1#32
  let v13 : BitVec 32 := Scalar.divsi v12 c1_i32_4
  let c2_i32_3 : BitVec 32 := 2#32
  let v14 : BitVec 32 := Scalar.remsi v13 c2_i32_3
  let v15 : BitVec 32 := Scalar.subi c1_i32_5 v14
  let c1_i32_10 : BitVec 32 := 1#32
  let v21 : BitVec 32 := Scalar.muli v15 c1_i32_10
  let v22 : BitVec 32 := Scalar.addi v20 v21
  v22.toNat
def k0_dev2 (d6 : Dev nD) : Nat :=
  let c0_i32_25 : BitVec 32 := 0#32
  let v6 : BitVec 32 := Dev.word d6
  let c4_i32 : BitVec 32 := 4#32
  let v7 : BitVec 32 := Scalar.divsi v6 c4_i32
  let c2_i32_0 : BitVec 32 := 2#32
  let v8 : BitVec 32 := Scalar.remsi v7 c2_i32_0
  let c4_i32_24 : BitVec 32 := 4#32
  let v31 : BitVec 32 := Scalar.muli v8 c4_i32_24
  let v32 : BitVec 32 := Scalar.addi c0_i32_25 v31
  let v9 : BitVec 32 := Dev.word d6
  let c2_i32_2 : BitVec 32 := 2#32
  let v10 : BitVec 32 := Scalar.divsi v9 c2_i32_2
  let c2_i32_1 : BitVec 32 := 2#32
  let v11 : BitVec 32 := Scalar.remsi v10 c2_i32_1
  let c2_i32_26 : BitVec 32 := 2#32
  let v33 : BitVec 32 := Scalar.muli v11 c2_i32_26
  let v34 : BitVec 32 := Scalar.addi v32 v33
  let c1_i32_5 : BitVec 32 := 1#32
  let v12 : BitVec 32 := Dev.word d6
  let c1_i32_4 : BitVec 32 := 1#32
  let v13 : BitVec 32 := Scalar.divsi v12 c1_i32_4
  let c2_i32_3 : BitVec 32 := 2#32
  let v14 : BitVec 32 := Scalar.remsi v13 c2_i32_3
  let v15 : BitVec 32 := Scalar.subi c1_i32_5 v14
  let c1_i32_27 : BitVec 32 := 1#32
  let v35 : BitVec 32 := Scalar.muli v15 c1_i32_27
  let v36 : BitVec 32 := Scalar.addi v34 v35
  v36.toNat
def k0_dev3 (d6 : Dev nD) : Nat :=
  let c0_i32_45 : BitVec 32 := 0#32
  let v6 : BitVec 32 := Dev.word d6
  let c4_i32 : BitVec 32 := 4#32
  let v7 : BitVec 32 := Scalar.divsi v6 c4_i32
  let c2_i32_0 : BitVec 32 := 2#32
  let v8 : BitVec 32 := Scalar.remsi v7 c2_i32_0
  let c4_i32_44 : BitVec 32 := 4#32
  let v51 : BitVec 32 := Scalar.muli v8 c4_i32_44
  let v52 : BitVec 32 := Scalar.addi c0_i32_45 v51
  let v9 : BitVec 32 := Dev.word d6
  let c2_i32_2 : BitVec 32 := 2#32
  let v10 : BitVec 32 := Scalar.divsi v9 c2_i32_2
  let c2_i32_1 : BitVec 32 := 2#32
  let v11 : BitVec 32 := Scalar.remsi v10 c2_i32_1
  let c2_i32_46 : BitVec 32 := 2#32
  let v53 : BitVec 32 := Scalar.muli v11 c2_i32_46
  let v54 : BitVec 32 := Scalar.addi v52 v53
  let c1_i32_5 : BitVec 32 := 1#32
  let v12 : BitVec 32 := Dev.word d6
  let c1_i32_4 : BitVec 32 := 1#32
  let v13 : BitVec 32 := Scalar.divsi v12 c1_i32_4
  let c2_i32_3 : BitVec 32 := 2#32
  let v14 : BitVec 32 := Scalar.remsi v13 c2_i32_3
  let v15 : BitVec 32 := Scalar.subi c1_i32_5 v14
  let c1_i32_47 : BitVec 32 := 1#32
  let v55 : BitVec 32 := Scalar.muli v15 c1_i32_47
  let v56 : BitVec 32 := Scalar.addi v54 v55
  v56.toNat
def k0_dev4 (d6 : Dev nD) : Nat :=
  let c0_i32_67 : BitVec 32 := 0#32
  let v6 : BitVec 32 := Dev.word d6
  let c4_i32 : BitVec 32 := 4#32
  let v7 : BitVec 32 := Scalar.divsi v6 c4_i32
  let c2_i32_0 : BitVec 32 := 2#32
  let v8 : BitVec 32 := Scalar.remsi v7 c2_i32_0
  let c4_i32_66 : BitVec 32 := 4#32
  let v73 : BitVec 32 := Scalar.muli v8 c4_i32_66
  let v74 : BitVec 32 := Scalar.addi c0_i32_67 v73
  let v9 : BitVec 32 := Dev.word d6
  let c2_i32_2 : BitVec 32 := 2#32
  let v10 : BitVec 32 := Scalar.divsi v9 c2_i32_2
  let c2_i32_1 : BitVec 32 := 2#32
  let v11 : BitVec 32 := Scalar.remsi v10 c2_i32_1
  let c2_i32_68 : BitVec 32 := 2#32
  let v75 : BitVec 32 := Scalar.muli v11 c2_i32_68
  let v76 : BitVec 32 := Scalar.addi v74 v75
  let c1_i32_5 : BitVec 32 := 1#32
  let v12 : BitVec 32 := Dev.word d6
  let c1_i32_4 : BitVec 32 := 1#32
  let v13 : BitVec 32 := Scalar.divsi v12 c1_i32_4
  let c2_i32_3 : BitVec 32 := 2#32
  let v14 : BitVec 32 := Scalar.remsi v13 c2_i32_3
  let v15 : BitVec 32 := Scalar.subi c1_i32_5 v14
  let c1_i32_69 : BitVec 32 := 1#32
  let v77 : BitVec 32 := Scalar.muli v15 c1_i32_69
  let v78 : BitVec 32 := Scalar.addi v76 v77
  v78.toNat
def k0_dev5 (d6 : Dev nD) : Nat :=
  let c0_i32_87 : BitVec 32 := 0#32
  let v6 : BitVec 32 := Dev.word d6
  let c4_i32 : BitVec 32 := 4#32
  let v7 : BitVec 32 := Scalar.divsi v6 c4_i32
  let c2_i32_0 : BitVec 32 := 2#32
  let v8 : BitVec 32 := Scalar.remsi v7 c2_i32_0
  let c4_i32_86 : BitVec 32 := 4#32
  let v93 : BitVec 32 := Scalar.muli v8 c4_i32_86
  let v94 : BitVec 32 := Scalar.addi c0_i32_87 v93
  let v9 : BitVec 32 := Dev.word d6
  let c2_i32_2 : BitVec 32 := 2#32
  let v10 : BitVec 32 := Scalar.divsi v9 c2_i32_2
  let c2_i32_1 : BitVec 32 := 2#32
  let v11 : BitVec 32 := Scalar.remsi v10 c2_i32_1
  let c2_i32_88 : BitVec 32 := 2#32
  let v95 : BitVec 32 := Scalar.muli v11 c2_i32_88
  let v96 : BitVec 32 := Scalar.addi v94 v95
  let c1_i32_5 : BitVec 32 := 1#32
  let v12 : BitVec 32 := Dev.word d6
  let c1_i32_4 : BitVec 32 := 1#32
  let v13 : BitVec 32 := Scalar.divsi v12 c1_i32_4
  let c2_i32_3 : BitVec 32 := 2#32
  let v14 : BitVec 32 := Scalar.remsi v13 c2_i32_3
  let v15 : BitVec 32 := Scalar.subi c1_i32_5 v14
  let c1_i32_89 : BitVec 32 := 1#32
  let v97 : BitVec 32 := Scalar.muli v15 c1_i32_89
  let v98 : BitVec 32 := Scalar.addi v96 v97
  v98.toNat
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S2x8x1024x1024, .f32⟩
  | .hbm, ⟨4, _⟩ => ⟨S_, .f32⟩
  | .hbm, ⟨5, _⟩ => ⟨S2x8x1024x1024, .f32⟩
  | .hbm, ⟨6, _⟩ => ⟨S2x8x1024x1024, .f32⟩
  | .hbm, ⟨7, _⟩ => ⟨S_, .f32⟩
  | .hbm, ⟨8, _⟩ => ⟨S2x8x1024, .f32⟩
  | .hbm, ⟨9, _⟩ => ⟨S2x8x1024x1, .f32⟩
  | .hbm, ⟨10, _⟩ => ⟨S2x8x1024x1024, .f32⟩
  | .hbm, ⟨11, _⟩ => ⟨S2x8x1024x1024, .f32⟩
  | .hbm, ⟨12, _⟩ => ⟨S2x8x1024x1024, .f32⟩
  | .hbm, ⟨13, _⟩ => ⟨S_, .f32⟩
  | .hbm, ⟨14, _⟩ => ⟨S2x8x1024, .f32⟩
  | .hbm, ⟨15, _⟩ => ⟨S2x8x1024x1, .f32⟩
  | .hbm, ⟨16, _⟩ => ⟨S2x8x1024x1024, .f32⟩
  | .hbm, ⟨17, _⟩ => ⟨S2x8x1024x1024, .f32⟩
  | .hbm, ⟨18, _⟩ => ⟨S2x8x64x1024, .f32⟩
  | .hbm, ⟨19, _⟩ => ⟨S2x1024x8x64, .f32⟩
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
  The exchange between a device and its partner along the mesh's last axis: the cells, what each
  transfer hands over, the schedule, what each device owes at launch, and the order of the waits.
  Device `c` and device `peer c` swap their key and value tiles, narrowed to bf16 and fp8, half by
  half (one half per batch row). Everything is stated for any float instance.
-/
module

public import proofs.«01_k».proof.Proof.Gen.KernelIdeal
public import Idealize.ShloMosaic.Lib.Pipeline.Kit
public import Idealize.ShloMosaic.Lib.Pipeline.Regions
public import Idealize.ShloMosaic.Lib.Rounds
public import Idealize.ShloMosaic.Lib.Tactic
public import Idealize.ShloMosaic.Lib.Transfers

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## The partner -/

/-- The device at the other place along the last mesh axis. -/
def peer (c : Dev nD) : Dev nD := ⟨if c.val % 2 = 0 then c.val + 1 else c.val - 1, by have := c.isLt; show _ < 8; have : c.val < 8 := this; split <;> omega⟩
theorem peer_peer (c : Dev nD) : peer (peer c) = c := by revert c; decide
def swap : Dev nD ≃ Dev nD := ⟨peer, peer, peer_peer, peer_peer⟩

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide

/-! ## The resource algebra -/

/-- The pipeline's rounds, the exchange's rounds, the local copies' counters. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (sig := sig) (Ix := Unit) (Val := Elt F) (Name := ℕ) (U := UU) (Lvl := ℕ)).toEmb
instance ER_landsIn : (ER : Emb (UR sig nD τ) 𝕄).LandsIn (upEmb : UEmb _ 𝕄) := by unfold ER; infer_instance

/-! ## Buffers and their halves -/

/-- Contents of a `2 × 8 × 64 × 512` buffer of element type `e`. -/
abbrev Tile (F : FTy → Type) (e : EltTy) : Type := (⟨S2x8x64x512, e⟩ : BufTy).Contents (Elt F)

/-- Batch row 0 of a tile buffer, as the kernel slices it. -/
abbrev lo {sp : Space} {e : EltTy} (m : Memref sig .tc sp S2x8x64x512 e) : Memref sig .tc sp S8x64x512 e :=
  (m.slice (Rect.unit (s := S2x8x64x512) ![0, 0, 0, 0] S1x8x64x512.size inb_S2x8x64x512_S1x8x64x512_0_0_0_0) (fun _ => rfl)).squeeze S8x64x512 squeezes_S1x8x64x512_S8x64x512
/-- Batch row 1. -/
abbrev hi {sp : Space} {e : EltTy} (m : Memref sig .tc sp S2x8x64x512 e) : Memref sig .tc sp S8x64x512 e :=
  (m.slice (Rect.unit (s := S2x8x64x512) ![1, 0, 0, 0] S1x8x64x512.size inb_S2x8x64x512_S1x8x64x512_1_0_0_0) (fun _ => rfl)).squeeze S8x64x512 squeezes_S1x8x64x512_S8x64x512

abbrev mK8 : Memref sig .tc .vmem S2x8x64x512 .bf16 := Memref.whole cc0_scratch3
abbrev mV8 : Memref sig .tc .vmem S2x8x64x512 .fp8e4m3 := Memref.whole cc0_scratch4
abbrev mKo : Memref sig .tc .vmem S2x8x64x512 .bf16 := Memref.whole cc0_scratch5
abbrev mVo : Memref sig .tc .vmem S2x8x64x512 .fp8e4m3 := Memref.whole cc0_scratch6

/-- The elements under `m` on device `c`, owned outright at contents `f`. -/
abbrev pts {sp : Space} {s : Shape} {e : EltTy} (m : Memref sig .tc sp s e) (c : Dev nD) (f : Buf (Elt F) (m.view.loc (c : Thread nD τ))) : sProp 𝕄 :=
  m.view.loc (c : Thread nD τ) ↦[m.view.set]{fullShare} f
/-- A whole buffer on device `c`. -/
abbrev pt {sp : Space} {s : Shape} {e : EltTy} (m : Memref sig .tc sp s e) (c : Dev nD) (f : Buf (Elt F) (m.view.loc (c : Thread nD τ))) : sProp 𝕄 :=
  m.view.loc (c : Thread nD τ) ↦{fullShare} f

/-- A key tile narrowed to bf16, a value tile narrowed to fp8: what travels. -/
def K8 (x : Tile F .f32) : Tile F .bf16 := truncf (s := S2x8x64x512) .bf16 x bitsLt_bf16_f32
def V8 (x : Tile F .f32) : Tile F .fp8e4m3 := truncf (s := S2x8x64x512) .fp8e4m3 x bitsLt_fp8e4m3_f32

/-! ## Cells -/

/-- The nine cells of the exchange: the barrier; then send and receive of key row 0, key row 1,
    value row 0, value row 1. -/
def chS : Fin 9 → SemLoc sig := fun i => if i.val = 0 then .reg 0 else .dma ⟨4 + i.val, by have := i.isLt; show _ < 13; omega⟩
/-- Which of the nine a cell is. -/
def which : SemLoc sig → Option (Fin 9)
  | .reg _ => some 0
  | .dma s => if h : 5 ≤ s.val then some ⟨s.val - 4, by have : s.val < 13 := s.isLt; omega⟩ else none

theorem which_chS (i : Fin 9) : which (chS i) = some i := by revert i; decide
theorem chS_inj : Function.Injective chS := fun i j h => by
  have := congrArg which h; rw [which_chS, which_chS] at this; exact Option.some.inj this

abbrev cell (c : Dev nD) (i : Fin 9) : GSem nD τ sig := ((c : Thread nD τ), chS i)

/-- The amounts of a key transfer and of a value transfer. -/
abbrev NK : ℕ := (lo mKo).view.dmaCredit
abbrev NV : ℕ := (lo mVo).view.dmaCredit
theorem NK_pos : 0 < NK := View.dmaCredit_pos _ (by decide)
theorem NV_pos : 0 < NV := View.dmaCredit_pos _ (by decide)

def am (i : Fin 9) : ℕ := if i.val = 0 then 1 else if i.val ≤ 4 then NK else NV
theorem am_pos (i : Fin 9) : 0 < am i := by
  unfold am; split
  · exact Nat.one_pos
  · split
    · exact NK_pos
    · exact NV_pos

/-! ## What each cell's duty hands over -/

section Pay

variable (KT VT : Dev nD → Tile F .f32)

/-- Device `d`'s four landing rows, at some contents. -/
def landRows (d : Dev nD) : sProp 𝕄 :=
  iprop((∃ f, pts (lo mKo) d f) ∗ (∃ f, pts (hi mKo) d f) ∗ (∃ f, pts (lo mVo) d f) ∗ (∃ f, pts (hi mVo) d f))
set_option synthInstance.maxHeartbeats 400000 in
instance landRows_storable (d : Dev nD) : BI.Storable (upEmb : UEmb _ 𝕄) (landRows d) := by unfold landRows; infer_instance

/-- To `c`'s barrier cell, from its partner: the partner's four landing rows, and that the
    partner's four receive cells are at round 0. -/
def barPay (c : Dev nD) : sProp 𝕄 :=
  iprop(landRows (peer c)
    ∗ reached ER (cell (peer c) 2) 0 ∗ reached ER (cell (peer c) 4) 0 ∗ reached ER (cell (peer c) 6) 0 ∗ reached ER (cell (peer c) 8) 0)

/-- The payload of cell `i` on device `c`: a send cell gives the narrowed own row back, a receive
    cell the partner's narrowed row. -/
def pay (i : Fin 9) (c : Dev nD) : sProp 𝕄 := match i with
  | 0 => barPay c
  | 1 => pts (lo mK8) c (K8 (KT c))
  | 2 => pts (lo mKo) c (K8 (KT (peer c)))
  | 3 => pts (hi mK8) c (K8 (KT c))
  | 4 => pts (hi mKo) c (K8 (KT (peer c)))
  | 5 => pts (lo mV8) c (V8 (VT c))
  | 6 => pts (lo mVo) c (V8 (VT (peer c)))
  | 7 => pts (hi mV8) c (V8 (VT c))
  | 8 => pts (hi mVo) c (V8 (VT (peer c)))

set_option synthInstance.maxHeartbeats 400000 in
instance pay_storable (i : Fin 9) (c : Dev nD) : BI.Storable (upEmb : UEmb _ 𝕄) (pay KT VT i c) := by
  fin_cases i <;> (simp only [pay, barPay]; infer_instance)

/-- One round, one duty, on each of the nine cells of every TensorCore. -/
def Rd : Rounds.Schedule (GSem nD τ sig) Unit 𝕄 where
  duties g r := if r = 0 ∧ g.1.2 = .tc ∧ (which g.2).isSome then {()} else ∅
  unitless _ := False
  amount g _ _ := match which g.2 with | some i => am i | none => 1
  payload g _ _ := match which g.2 with | some i => pay KT VT i g.1.1 | none => iprop(emp)
  amount_pos g _ _ _ := by
    split
    · exact am_pos _
    · exact Nat.one_pos

instance Rd_payload_storable (g : GSem nD τ sig) (r : ℕ) (d : Unit) : BI.Storable (upEmb : UEmb _ 𝕄) ((Rd KT VT).payload g r d) := by
  show BI.Storable upEmb (match which g.2 with | some i => pay KT VT i g.1.1 | none => iprop(emp))
  split <;> infer_instance

variable (c : Dev nD) (i : Fin 9)

theorem duties_at : (Rd KT VT).duties (cell c i) 0 = {()} := if_pos ⟨rfl, rfl, by rw [which_chS]; rfl⟩
theorem duties_later (g : GSem nD τ sig) : ∀ r, 1 ≤ r → (Rd KT VT).duties g r = ∅ := fun r hr => if_neg (fun h => by omega)
theorem amount_at (u : Unit) : (Rd KT VT).amount (cell c i) 0 u = am i := by
  show (match which (chS i) with | some j => am j | none => 1) = am i
  rw [which_chS]
theorem payload_at (u : Unit) : (Rd KT VT).payload (cell c i) 0 u = pay KT VT i c := by
  show (match which (chS i) with | some j => pay KT VT j c | none => iprop(emp)) = pay KT VT i c
  rw [which_chS]
theorem expect_at : (Rd KT VT).expect (cell c i) 0 = am i := by
  unfold Schedule.expect Schedule.amountOf; rw [duties_at, Finset.sum_singleton, amount_at]
theorem mem_at : () ∈ (Rd KT VT).duties (cell c i) 0 := by rw [duties_at]; exact Finset.mem_singleton_self _
theorem rest_at : bigSep ((Rd KT VT).duties (cell c i) 0 \ ∅) (fun u => (Rd KT VT).payload (cell c i) 0 u) = pay KT VT i c := by
  rw [Finset.sdiff_empty, duties_at, bigSep_singleton, payload_at]

end Pay

/-! ## What a device owes at launch; the levels -/

/-- The receive credits of the partner still owed after the first `n` transfers of four, in the
    order they are paid. -/
def owedV1 (c : Dev nD) : CellTallies nD τ sig Unit := tallyAt (cell (peer c) 8) () NV
def owedV0 (c : Dev nD) : CellTallies nD τ sig Unit := owedV1 c + tallyAt (cell (peer c) 6) () NV
def owedK1 (c : Dev nD) : CellTallies nD τ sig Unit := owedV0 c + tallyAt (cell (peer c) 4) () NK
def owedK0 (c : Dev nD) : CellTallies nD τ sig Unit := owedK1 c + tallyAt (cell (peer c) 2) () NK
/-- At launch: those four, and the partner's barrier unit. -/
def O₀ (c : Dev nD) : CellTallies nD τ sig Unit := owedK0 c + tallyAt (cell (peer c) 0) () 1

def L (g : GSem nD τ sig) : Finset Unit := if g.1.2 = .tc then {()} else ∅
/-- The four receive cells last, the barrier before them, everything else first. -/
def lvS (s : SemLoc sig) : ℕ := match which s with
  | some i => if i.val = 0 then 1 else if i.val % 2 = 0 then 2 else 0
  | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything `O` owes is at receive cells. -/
def OnRecv (O : CellTallies nD τ sig Unit) : Prop := ∀ g u, 0 < O g u → () ∈ L g ∧ lvS g.2 = 2

theorem onRecv_tally (c : Dev nD) (i : Fin 9) (n : ℕ) (h : lvS (chS i) = 2) : OnRecv (tallyAt (cell c i) () n) := fun g u hg => by
  rw [tallyAt_apply] at hg
  by_cases hh : g = cell c i ∧ u = ()
  · rw [hh.1]; exact ⟨by rw [L_tc]; exact Finset.mem_singleton_self _, h⟩
  · rw [if_neg hh] at hg; exact absurd hg (Nat.lt_irrefl 0)
theorem OnRecv.add {O O' : CellTallies nD τ sig Unit} (h : OnRecv O) (h' : OnRecv O') : OnRecv (O + O') := fun g u hg => by
  rw [Pi.add_apply, Finsupp.add_apply] at hg
  exact (Nat.add_pos_iff_pos_or_pos.mp hg).elim (h g u) (h' g u)

theorem onRecv_V1 (c : Dev nD) : OnRecv (owedV1 c) := onRecv_tally _ 8 _ (by decide)
theorem onRecv_V0 (c : Dev nD) : OnRecv (owedV0 c) := (onRecv_V1 c).add (onRecv_tally _ 6 _ (by decide))
theorem onRecv_K1 (c : Dev nD) : OnRecv (owedK1 c) := (onRecv_V0 c).add (onRecv_tally _ 4 _ (by decide))
theorem onRecv_K0 (c : Dev nD) : OnRecv (owedK0 c) := (onRecv_K1 c).add (onRecv_tally _ 2 _ (by decide))

/-- A device owing only at receive cells may wait on any cell of its own that is none. -/
theorem mayWait_of (c : Dev nD) (sm : SemLoc sig) (hs : lvS sm ≤ 1) (O : CellTallies nD τ sig Unit) (hO : OnRecv O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => (hO g u hg).1)
    (fun p hp => by rw [Finset.mem_singleton.mp hp]; exact hs)
    (fun g u hg => by show 1 < lvS g.2; rw [(hO g u hg).2]; decide)

end Cert.KernelIdeal.Hand

end
-- ==== Proof.Rows.lean ====
/- Rows of a tile: its halves, a batch row each, as rectangles and as what a transfer reads and writes. -/
module

public import proofs.«01_k».proof.Proof.Protocol
public import proofs.«01_k».proof.Proof.Gen.KernelIdeal.Points
public import proofs.«01_k».proof.Proof.Gen.KernelIdeal.Skeleton
public import proofs.«01_k».proof.Proof.Gen.KernelIdeal.Launch
public import Idealize.ShloMosaic.Lib.Exec
public import Idealize.ShloMosaic.Lib.Pipeline.Value

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! # Rows of a tile: what a store or a landed copy leaves there -/

/-- Owned elements may be restated at contents that agree on them. -/
theorem ptsCongr {sp : Space} {s : Shape} {e : EltTy} (m : Memref sig .tc sp s e) (c : Dev nD) (f g : Buf (Elt F) (m.view.loc (c : Thread nD τ)))
    (h : ∀ i ∈ m.view.set, f i = g i) : pts m c f ⊢ (pts m c g : sProp 𝕄) := Entails.of_eq (pointsTo_congr h)

/-- After writing `w` through a view, the elements under it are those of any `g` that reads as `w`. -/
theorem write_agree {sp : Space} {s : Shape} {e : EltTy} (v : View sig .tc sp s e) (f g : v.ty.Contents (Elt F)) (w : s.Idx → Elt F e)
    (h : ∀ x, v.read (Elt F) g x = w x) : ∀ i ∈ v.set, v.write (Elt F) f w Finset.univ i = g i := fun i hi => by
  obtain ⟨x, -, rfl⟩ := Finset.mem_map.mp hi
  rw [View.write_emb_of_mem f w (Finset.mem_univ x), ← h x, View.read_apply, cast_cast, cast_eq]

abbrev r0 : Rect S2x8x64x512 := Rect.unit (s := S2x8x64x512) ![0, 0, 0, 0] S1x8x64x512.size inb_S2x8x64x512_S1x8x64x512_0_0_0_0
abbrev r1 : Rect S2x8x64x512 := Rect.unit (s := S2x8x64x512) ![1, 0, 0, 0] S1x8x64x512.size inb_S2x8x64x512_S1x8x64x512_1_0_0_0

theorem lo_set {sp : Space} {e : EltTy} (m : Memref sig .tc sp S2x8x64x512 e) : (lo m).view.set = (m.view.slice r0).set := View.set_reshape _ _
theorem hi_set {sp : Space} {e : EltTy} (m : Memref sig .tc sp S2x8x64x512 e) : (hi m).view.set = (m.view.slice r1).set := View.set_reshape _ _

/-- Dropping the leading axis, narrowing and restoring it is narrowing. -/
theorem narrow_row {φ : FTy} (w : Vec F S1x8x64x512 .f32) (hb : φ.bits < FTy.bits .f32) (h : S1x8x64x512.ShapeCasts S8x64x512) (h' : S8x64x512.ShapeCasts S1x8x64x512) :
    shapeCast S1x8x64x512 (truncf φ (shapeCast S8x64x512 w h) hb) h' = truncf φ w hb :=
  congrArg (fun u => truncf φ u hb) (shapeCast_shapeCast w h h')

/-- Narrowing a row of the key tile and storing it puts the narrowed tile's row there. -/
theorem stored_K_lo (f : Tile F .bf16) (y x : Tile F .f32) (h : y = x) :
    ∀ i ∈ (lo mK8).view.set, (mK8.view.slice r0).write (Elt F) f (k0_pay2 (k0_pay1 ((Memref.whole cc0_scratch1).view.readAt (Elt F) r0.toLoadRect y))) Finset.univ i = K8 x i := by
  rw [lo_set, h]
  exact write_agree (mK8.view.slice r0) f (K8 x) _ fun i => (congrFun (narrow_row ((Memref.whole cc0_scratch1).view.readAt (Elt F) r0.toLoadRect x) bitsLt_bf16_f32 shapeCasts_S1x8x64x512_S8x64x512 shapeCasts_S8x64x512_S1x8x64x512) i).symm
theorem stored_K_hi (f : Tile F .bf16) (y x : Tile F .f32) (h : y = x) :
    ∀ i ∈ (hi mK8).view.set, (mK8.view.slice r1).write (Elt F) f (k0_pay3 ((Memref.whole cc0_scratch1).view.readAt (Elt F) r1.toLoadRect y)) Finset.univ i = K8 x i := by
  rw [hi_set, h]
  exact write_agree (mK8.view.slice r1) f (K8 x) _ fun i => (congrFun (narrow_row ((Memref.whole cc0_scratch1).view.readAt (Elt F) r1.toLoadRect x) bitsLt_bf16_f32 shapeCasts_S1x8x64x512_S8x64x512 shapeCasts_S8x64x512_S1x8x64x512) i).symm
/-- The same for the value tile. -/
theorem stored_V_lo (f : Tile F .fp8e4m3) (y x : Tile F .f32) (h : y = x) :
    ∀ i ∈ (lo mV8).view.set, (mV8.view.slice r0).write (Elt F) f (k0_pay4 ((Memref.whole cc0_scratch2).view.readAt (Elt F) r0.toLoadRect y)) Finset.univ i = V8 x i := by
  rw [lo_set, h]
  exact write_agree (mV8.view.slice r0) f (V8 x) _ fun i => (congrFun (narrow_row ((Memref.whole cc0_scratch2).view.readAt (Elt F) r0.toLoadRect x) bitsLt_fp8e4m3_f32 shapeCasts_S1x8x64x512_S8x64x512 shapeCasts_S8x64x512_S1x8x64x512) i).symm
theorem stored_V_hi (f : Tile F .fp8e4m3) (y x : Tile F .f32) (h : y = x) :
    ∀ i ∈ (hi mV8).view.set, (mV8.view.slice r1).write (Elt F) f (k0_pay5 ((Memref.whole cc0_scratch2).view.readAt (Elt F) r1.toLoadRect y)) Finset.univ i = V8 x i := by
  rw [hi_set, h]
  exact write_agree (mV8.view.slice r1) f (V8 x) _ fun i => (congrFun (narrow_row ((Memref.whole cc0_scratch2).view.readAt (Elt F) r1.toLoadRect x) bitsLt_fp8e4m3_f32 shapeCasts_S1x8x64x512_S8x64x512 shapeCasts_S8x64x512_S1x8x64x512) i).symm

/-! ## A transfer of a row -/

section Send
variable (KT VT : Dev nD → Tile F .f32)

/-- What a transfer leaves at the partner, at contents `f`, is receive cell `j`'s payload. -/
theorem landed_K_lo (c : Dev nD) (f : Tile F .bf16) :
    (pts (lo mKo) (peer c) ((lo mKo).view.write (Elt F) f ((lo mK8).view.read (Elt F) (K8 (KT c))) Finset.univ) : sProp 𝕄) ⊢ pay KT VT 2 (peer c) := by
  show _ ⊢ pts (lo mKo) (peer c) (K8 (KT (peer (peer c))))
  rw [peer_peer]
  exact ptsCongr _ _ _ _ (write_agree (lo mKo).view f (K8 (KT c)) _ fun _ => rfl)
theorem landed_K_hi (c : Dev nD) (f : Tile F .bf16) :
    (pts (hi mKo) (peer c) ((hi mKo).view.write (Elt F) f ((hi mK8).view.read (Elt F) (K8 (KT c))) Finset.univ) : sProp 𝕄) ⊢ pay KT VT 4 (peer c) := by
  show _ ⊢ pts (hi mKo) (peer c) (K8 (KT (peer (peer c))))
  rw [peer_peer]
  exact ptsCongr _ _ _ _ (write_agree (hi mKo).view f (K8 (KT c)) _ fun _ => rfl)
theorem landed_V_lo (c : Dev nD) (f : Tile F .fp8e4m3) :
    (pts (lo mVo) (peer c) ((lo mVo).view.write (Elt F) f ((lo mV8).view.read (Elt F) (V8 (VT c))) Finset.univ) : sProp 𝕄) ⊢ pay KT VT 6 (peer c) := by
  show _ ⊢ pts (lo mVo) (peer c) (V8 (VT (peer (peer c))))
  rw [peer_peer]
  exact ptsCongr _ _ _ _ (write_agree (lo mVo).view f (V8 (VT c)) _ fun _ => rfl)
theorem landed_V_hi (c : Dev nD) (f : Tile F .fp8e4m3) :
    (pts (hi mVo) (peer c) ((hi mVo).view.write (Elt F) f ((hi mV8).view.read (Elt F) (V8 (VT c))) Finset.univ) : sProp 𝕄) ⊢ pay KT VT 8 (peer c) := by
  show _ ⊢ pts (hi mVo) (peer c) (V8 (VT (peer (peer c))))
  rw [peer_peer]
  exact ptsCongr _ _ _ _ (write_agree (hi mVo).view f (V8 (VT c)) _ fun _ => rfl)

abbrev 𝒱₀ : Variants := Variants.none

/-- A transfer of a row to the partner: send cell `i` of `c` is paid with the source row, receive cell
    `j` of the partner with the row landed; one debt less is owed. -/
theorem send_row {e : EltTy} (c d : Dev nD) (hd : d = peer c) (i j : Fin 9) {src dst : Memref sig .tc .vmem S8x64x512 e} {hsc : dst.view.ref.isScScratch = false}
    {sS sem : SemLoc sig} (hS : sS = chS i) (hR : sem = chS j)
    {hsrc : src.view.WordExact} {hdst : dst.view.WordExact} {hsem : DmaTarget.Typed .vmem sem (.remote (d : Thread nD τ) dst sS hsc)}
    {k : PUnit → Prog (TpuEff nD τ sig (Elt F) Λ₀ .tc) PUnit} (K : GSem nD τ sig → ℕ)
    (fs : Buf (Elt F) (src.view.loc (c : Thread nD τ))) (fd : Buf (Elt F) (dst.view.loc ((peer c : Dev nD) : Thread nD τ)))
    (N : ℕ) (hN : dst.view.amount (chS j) = N) (hi : am i = N) (hj : am j = N)
    (O₁ O : CellTallies nD τ sig Unit) (hO : O₁ = O + tallyAt ((peer c : Thread nD τ), sem) () N) (W : Waits sig Unit)
    (hp₁ : (pts src c fs : sProp 𝕄) ⊢ pay KT VT i c)
    (hp₂ : (pts dst (peer c) (dst.view.write (Elt F) fd (src.view.read (Elt F) fs) Finset.univ) : sProp 𝕄) ⊢ pay KT VT j (peer c)) {Q : PUnit → sProp 𝕄} :
    iprop(cellInv ER (Rd KT VT) (K (cell c i)) ((c : Thread nD τ), sS) ∗ cellInv ER (Rd KT VT) (K (cell (peer c) j)) ((peer c : Thread nD τ), sem)
        ∗ pts src c fs ∗ pts dst (peer c) fd ∗ owes c O₁ W
        ∗ dutyTok ER ((c : Thread nD τ), sS) 0 () ∗ reached ER ((c : Thread nD τ), sS) 0
        ∗ dutyTok ER ((peer c : Thread nD τ), sem) 0 () ∗ reached ER ((peer c : Thread nD τ), sem) 0)
      ⊢ iprop(((cred (tallyAt ((c : Thread nD τ), sS) () N) ∗ owes c O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (d : Thread nD τ) dst sS hsc) sem hsrc hdst hsem) k) Q) := by
  subst hd hS hR
  exact Rounds.wp_send_pointsTo 𝒱₀ ER (Rd KT VT) (c : Thread nD τ) none (mem_at KT VT c i) (mem_at KT VT (peer c) j) () () N hN
    ((amount_at KT VT c i ()).trans hi) ((amount_at KT VT (peer c) j ()).trans hj) O hO
    (hp₁.trans (Entails.of_eq (payload_at KT VT c i ()).symm)) (hp₂.trans (Entails.of_eq (payload_at KT VT (peer c) j ()).symm))

/-- The four transfers, each at its rows, cells and debts. -/
theorem send_K_lo (K : GSem nD τ sig → ℕ) (c d : Dev nD) (hd : d = peer c) (f : Tile F .bf16) {hsc : (lo mKo).view.ref.isScScratch = false}
    {hsrc : (lo mK8).view.WordExact} {hdst : (lo mKo).view.WordExact} {hsem : DmaTarget.Typed .vmem (.dma ((cc0_scratch10.slice (Rect.unit (s := S8) ![1] S1.size inb_S8_S1_1)).squeeze S_ squeezes_S1_S_).sem : SemLoc sig) (.remote (d : Thread nD τ) (lo mKo) (.dma ((cc0_scratch10.slice (Rect.unit (s := S8) ![0] S1.size inb_S8_S1_0)).squeeze S_ squeezes_S1_S_).sem) hsc)}
    {k : PUnit → Prog (TpuEff nD τ sig (Elt F) Λ₀ .tc) PUnit} (W : Waits sig Unit) {Q : PUnit → sProp 𝕄} :
    iprop(cellInv ER (Rd KT VT) (K (cell c 1)) ((c : Thread nD τ), .dma 5) ∗ cellInv ER (Rd KT VT) (K (cell (peer c) 2)) ((peer c : Thread nD τ), .dma 6)
        ∗ pts (lo mK8) c (K8 (KT c)) ∗ pts (lo mKo) (peer c) f ∗ owes c (owedK0 c) W
        ∗ dutyTok ER ((c : Thread nD τ), .dma 5) 0 () ∗ reached ER ((c : Thread nD τ), .dma 5) 0
        ∗ dutyTok ER ((peer c : Thread nD τ), .dma 6) 0 () ∗ reached ER ((peer c : Thread nD τ), .dma 6) 0)
      ⊢ iprop(((cred (tallyAt ((c : Thread nD τ), .dma 5) () NK) ∗ owes c (owedK1 c) W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (lo mK8) (.remote (d : Thread nD τ) (lo mKo) (.dma ((cc0_scratch10.slice (Rect.unit (s := S8) ![0] S1.size inb_S8_S1_0)).squeeze S_ squeezes_S1_S_).sem) hsc) (.dma ((cc0_scratch10.slice (Rect.unit (s := S8) ![1] S1.size inb_S8_S1_1)).squeeze S_ squeezes_S1_S_).sem) hsrc hdst hsem) k) Q) := by
  have hN : (lo mKo).view.amount (chS 2) = NK := rfl
  have hp : (pts (lo mK8) c (K8 (KT c)) : sProp 𝕄) ⊢ pay KT VT 1 c := Entails.rfl
  have hS : .dma 5 = chS 1 := rfl
  have hR : .dma 6 = chS 2 := rfl
  exact send_row (src := lo mK8) (dst := lo mKo) (sS := .dma 5) (sem := .dma 6) (hsrc := hsrc) (hdst := hdst) (hsem := hsem) (k := k) (Q := Q)
    KT VT c d hd 1 2 hS hR K (K8 (KT c)) f NK hN rfl rfl (owedK0 c) (owedK1 c) rfl W hp (landed_K_lo KT VT c f)

/-- The high row of the keys. -/
theorem send_K_hi (K : GSem nD τ sig → ℕ) (c d : Dev nD) (hd : d = peer c) (f : Tile F .bf16) {hsc : (hi mKo).view.ref.isScScratch = false}
    {hsrc : (hi mK8).view.WordExact} {hdst : (hi mKo).view.WordExact} {hsem : DmaTarget.Typed .vmem (.dma ((cc0_scratch10.slice (Rect.unit (s := S8) ![3] S1.size inb_S8_S1_3)).squeeze S_ squeezes_S1_S_).sem : SemLoc sig) (.remote (d : Thread nD τ) (hi mKo) (.dma ((cc0_scratch10.slice (Rect.unit (s := S8) ![2] S1.size inb_S8_S1_2)).squeeze S_ squeezes_S1_S_).sem) hsc)}
    {k : PUnit → Prog (TpuEff nD τ sig (Elt F) Λ₀ .tc) PUnit} (W : Waits sig Unit) {Q : PUnit → sProp 𝕄} :
    iprop(cellInv ER (Rd KT VT) (K (cell c 3)) ((c : Thread nD τ), .dma 7) ∗ cellInv ER (Rd KT VT) (K (cell (peer c) 4)) ((peer c : Thread nD τ), .dma 8)
        ∗ pts (hi mK8) c (K8 (KT c)) ∗ pts (hi mKo) (peer c) f ∗ owes c (owedK1 c) W
        ∗ dutyTok ER ((c : Thread nD τ), .dma 7) 0 () ∗ reached ER ((c : Thread nD τ), .dma 7) 0
        ∗ dutyTok ER ((peer c : Thread nD τ), .dma 8) 0 () ∗ reached ER ((peer c : Thread nD τ), .dma 8) 0)
      ⊢ iprop(((cred (tallyAt ((c : Thread nD τ), .dma 7) () NK) ∗ owes c (owedV0 c) W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (hi mK8) (.remote (d : Thread nD τ) (hi mKo) (.dma ((cc0_scratch10.slice (Rect.unit (s := S8) ![2] S1.size inb_S8_S1_2)).squeeze S_ squeezes_S1_S_).sem) hsc) (.dma ((cc0_scratch10.slice (Rect.unit (s := S8) ![3] S1.size inb_S8_S1_3)).squeeze S_ squeezes_S1_S_).sem) hsrc hdst hsem) k) Q) := by
  have hN : (hi mKo).view.amount (chS 4) = NK := rfl
  have hp : (pts (hi mK8) c (K8 (KT c)) : sProp 𝕄) ⊢ pay KT VT 3 c := Entails.rfl
  have hS : .dma 7 = chS 3 := rfl
  have hR : .dma 8 = chS 4 := rfl
  exact send_row (src := hi mK8) (dst := hi mKo) (sS := .dma 7) (sem := .dma 8) (hsrc := hsrc) (hdst := hdst) (hsem := hsem) (k := k) (Q := Q)
    KT VT c d hd 3 4 hS hR K (K8 (KT c)) f NK hN rfl rfl (owedK1 c) (owedV0 c) rfl W hp (landed_K_hi KT VT c f)

/-- The low row of the values. -/
theorem send_V_lo (K : GSem nD τ sig → ℕ) (c d : Dev nD) (hd : d = peer c) (f : Tile F .fp8e4m3) {hsc : (lo mVo).view.ref.isScScratch = false}
    {hsrc : (lo mV8).view.WordExact} {hdst : (lo mVo).view.WordExact} {hsem : DmaTarget.Typed .vmem (.dma ((cc0_scratch10.slice (Rect.unit (s := S8) ![5] S1.size inb_S8_S1_5)).squeeze S_ squeezes_S1_S_).sem : SemLoc sig) (.remote (d : Thread nD τ) (lo mVo) (.dma ((cc0_scratch10.slice (Rect.unit (s := S8) ![4] S1.size inb_S8_S1_4)).squeeze S_ squeezes_S1_S_).sem) hsc)}
    {k : PUnit → Prog (TpuEff nD τ sig (Elt F) Λ₀ .tc) PUnit} (W : Waits sig Unit) {Q : PUnit → sProp 𝕄} :
    iprop(cellInv ER (Rd KT VT) (K (cell c 5)) ((c : Thread nD τ), .dma 9) ∗ cellInv ER (Rd KT VT) (K (cell (peer c) 6)) ((peer c : Thread nD τ), .dma 10)
        ∗ pts (lo mV8) c (V8 (VT c)) ∗ pts (lo mVo) (peer c) f ∗ owes c (owedV0 c) W
        ∗ dutyTok ER ((c : Thread nD τ), .dma 9) 0 () ∗ reached ER ((c : Thread nD τ), .dma 9) 0
        ∗ dutyTok ER ((peer c : Thread nD τ), .dma 10) 0 () ∗ reached ER ((peer c : Thread nD τ), .dma 10) 0)
      ⊢ iprop(((cred (tallyAt ((c : Thread nD τ), .dma 9) () NV) ∗ owes c (owedV1 c) W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (lo mV8) (.remote (d : Thread nD τ) (lo mVo) (.dma ((cc0_scratch10.slice (Rect.unit (s := S8) ![4] S1.size inb_S8_S1_4)).squeeze S_ squeezes_S1_S_).sem) hsc) (.dma ((cc0_scratch10.slice (Rect.unit (s := S8) ![5] S1.size inb_S8_S1_5)).squeeze S_ squeezes_S1_S_).sem) hsrc hdst hsem) k) Q) := by
  have hN : (lo mVo).view.amount (chS 6) = NV := rfl
  have hp : (pts (lo mV8) c (V8 (VT c)) : sProp 𝕄) ⊢ pay KT VT 5 c := Entails.rfl
  have hS : .dma 9 = chS 5 := rfl
  have hR : .dma 10 = chS 6 := rfl
  exact send_row (src := lo mV8) (dst := lo mVo) (sS := .dma 9) (sem := .dma 10) (hsrc := hsrc) (hdst := hdst) (hsem := hsem) (k := k) (Q := Q)
    KT VT c d hd 5 6 hS hR K (V8 (VT c)) f NV hN rfl rfl (owedV0 c) (owedV1 c) rfl W hp (landed_V_lo KT VT c f)

/-- The high row of the values. -/
theorem send_V_hi (K : GSem nD τ sig → ℕ) (c d : Dev nD) (hd : d = peer c) (f : Tile F .fp8e4m3) {hsc : (hi mVo).view.ref.isScScratch = false}
    {hsrc : (hi mV8).view.WordExact} {hdst : (hi mVo).view.WordExact} {hsem : DmaTarget.Typed .vmem (.dma ((cc0_scratch10.slice (Rect.unit (s := S8) ![7] S1.size inb_S8_S1_7)).squeeze S_ squeezes_S1_S_).sem : SemLoc sig) (.remote (d : Thread nD τ) (hi mVo) (.dma ((cc0_scratch10.slice (Rect.unit (s := S8) ![6] S1.size inb_S8_S1_6)).squeeze S_ squeezes_S1_S_).sem) hsc)}
    {k : PUnit → Prog (TpuEff nD τ sig (Elt F) Λ₀ .tc) PUnit} (W : Waits sig Unit) {Q : PUnit → sProp 𝕄} :
    iprop(cellInv ER (Rd KT VT) (K (cell c 7)) ((c : Thread nD τ), .dma 11) ∗ cellInv ER (Rd KT VT) (K (cell (peer c) 8)) ((peer c : Thread nD τ), .dma 12)
        ∗ pts (hi mV8) c (V8 (VT c)) ∗ pts (hi mVo) (peer c) f ∗ owes c (owedV1 c) W
        ∗ dutyTok ER ((c : Thread nD τ), .dma 11) 0 () ∗ reached ER ((c : Thread nD τ), .dma 11) 0
        ∗ dutyTok ER ((peer c : Thread nD τ), .dma 12) 0 () ∗ reached ER ((peer c : Thread nD τ), .dma 12) 0)
      ⊢ iprop(((cred (tallyAt ((c : Thread nD τ), .dma 11) () NV) ∗ owes c (0) W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (hi mV8) (.remote (d : Thread nD τ) (hi mVo) (.dma ((cc0_scratch10.slice (Rect.unit (s := S8) ![6] S1.size inb_S8_S1_6)).squeeze S_ squeezes_S1_S_).sem) hsc) (.dma ((cc0_scratch10.slice (Rect.unit (s := S8) ![7] S1.size inb_S8_S1_7)).squeeze S_ squeezes_S1_S_).sem) hsrc hdst hsem) k) Q) := by
  have hN : (hi mVo).view.amount (chS 8) = NV := rfl
  have hp : (pts (hi mV8) c (V8 (VT c)) : sProp 𝕄) ⊢ pay KT VT 7 c := Entails.rfl
  have hS : .dma 11 = chS 7 := rfl
  have hR : .dma 12 = chS 8 := rfl
  exact send_row (src := hi mV8) (dst := hi mVo) (sS := .dma 11) (sem := .dma 12) (hsrc := hsrc) (hdst := hdst) (hsem := hsem) (k := k) (Q := Q)
    KT VT c d hd 7 8 hS hR K (V8 (VT c)) f NV hN rfl rfl (owedV1 c) (0) (zero_add _).symm W hp (landed_V_hi KT VT c f)

end Send

end Cert.KernelIdeal.Hand
-- ==== Proof.Sends.lean ====
/- The steps on the exchange's cells: the partner signalled and waited for, the four sends, and their waits. -/
module

public import proofs.«01_k».proof.Proof.Rows

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! # The transfers as programs, and the three parts that make them -/

/-- The four transfers to device `d`. -/
def sendKlo (d : Dev nD) : Prog (TpuEff nD τ sig (Elt F) Λ₀ .tc) PUnit :=
  Prog.lift (.enqueueDma (lo mK8) (.remote (Dev.tc d) (lo mKo) (.dma ((cc0_scratch10.slice (Rect.unit (s := S8) ![0] S1.size inb_S8_S1_0)).squeeze S_ squeezes_S1_S_).sem))
    (.dma ((cc0_scratch10.slice (Rect.unit (s := S8) ![1] S1.size inb_S8_S1_1)).squeeze S_ squeezes_S1_S_).sem)
    (((Memref.isWhole_whole _).wordExact_slice rfl _ wordsbf16_S2x8x64x512_S1x8x64x512_0_0_0_0).reshape _ _)
    (((Memref.isWhole_whole _).wordExact_slice rfl _ wordsbf16_S2x8x64x512_S1x8x64x512_0_0_0_0).reshape _ _) ⟨⟨rfl, Or.inl rfl⟩, trivial⟩)
def sendKhi (d : Dev nD) : Prog (TpuEff nD τ sig (Elt F) Λ₀ .tc) PUnit :=
  Prog.lift (.enqueueDma (hi mK8) (.remote (Dev.tc d) (hi mKo) (.dma ((cc0_scratch10.slice (Rect.unit (s := S8) ![2] S1.size inb_S8_S1_2)).squeeze S_ squeezes_S1_S_).sem))
    (.dma ((cc0_scratch10.slice (Rect.unit (s := S8) ![3] S1.size inb_S8_S1_3)).squeeze S_ squeezes_S1_S_).sem)
    (((Memref.isWhole_whole _).wordExact_slice rfl _ wordsbf16_S2x8x64x512_S1x8x64x512_1_0_0_0).reshape _ _)
    (((Memref.isWhole_whole _).wordExact_slice rfl _ wordsbf16_S2x8x64x512_S1x8x64x512_1_0_0_0).reshape _ _) ⟨⟨rfl, Or.inl rfl⟩, trivial⟩)
def sendVlo (d : Dev nD) : Prog (TpuEff nD τ sig (Elt F) Λ₀ .tc) PUnit :=
  Prog.lift (.enqueueDma (lo mV8) (.remote (Dev.tc d) (lo mVo) (.dma ((cc0_scratch10.slice (Rect.unit (s := S8) ![4] S1.size inb_S8_S1_4)).squeeze S_ squeezes_S1_S_).sem))
    (.dma ((cc0_scratch10.slice (Rect.unit (s := S8) ![5] S1.size inb_S8_S1_5)).squeeze S_ squeezes_S1_S_).sem)
    (((Memref.isWhole_whole _).wordExact_slice rfl _ wordsfp8e4m3_S2x8x64x512_S1x8x64x512_0_0_0_0).reshape _ _)
    (((Memref.isWhole_whole _).wordExact_slice rfl _ wordsfp8e4m3_S2x8x64x512_S1x8x64x512_0_0_0_0).reshape _ _) ⟨⟨rfl, Or.inl rfl⟩, trivial⟩)
def sendVhi (d : Dev nD) : Prog (TpuEff nD τ sig (Elt F) Λ₀ .tc) PUnit :=
  Prog.lift (.enqueueDma (hi mV8) (.remote (Dev.tc d) (hi mVo) (.dma ((cc0_scratch10.slice (Rect.unit (s := S8) ![6] S1.size inb_S8_S1_6)).squeeze S_ squeezes_S1_S_).sem))
    (.dma ((cc0_scratch10.slice (Rect.unit (s := S8) ![7] S1.size inb_S8_S1_7)).squeeze S_ squeezes_S1_S_).sem)
    (((Memref.isWhole_whole _).wordExact_slice rfl _ wordsfp8e4m3_S2x8x64x512_S1x8x64x512_1_0_0_0).reshape _ _)
    (((Memref.isWhole_whole _).wordExact_slice rfl _ wordsfp8e4m3_S2x8x64x512_S1x8x64x512_1_0_0_0).reshape _ _) ⟨⟨rfl, Or.inl rfl⟩, trivial⟩)

/-- Part 2, its transfers named. -/
def part2 (d6 : Dev nD) (v8 : BitVec 32) (v11 : BitVec 32) (v15 : BitVec 32) (v27 : FVec F S8x64x512 .bf16) : Prog (TpuEff nD τ sig (Elt F) Λ₀ .tc) (BitVec 32) := do
  let v28 : Vec F S1x8x64x512 .bf16 ← Prog.lift (.load (Memref.whole cc0_scratch3) (Rect.unit (s := S2x8x64x512) ![0, 0, 0, 0] S1x8x64x512.size inb_S2x8x64x512_S1x8x64x512_0_0_0_0).toLoadRect (View.loadsAt_vmem h_S1x8x64x512))
  Prog.lift (.store (Memref.whole cc0_scratch3) (Rect.unit (s := S2x8x64x512) ![0, 0, 0, 0] S1x8x64x512.size inb_S2x8x64x512_S1x8x64x512_0_0_0_0) (k0_pay2 v27) Finset.univ (View.stores_vmem h_S1x8x64x512 ((Memref.isWhole_whole cc0_scratch3).storeExact_slice rfl _ packedbf16_S2x8x64x512_S1x8x64x512_0_0_0_0) (fun _ => rfl)) (.inl rfl))
  sendKlo (⟨k0_dev2 d6, k0_dev2_lt d6⟩ : Dev nD)
  let v45 : Vec F S1x8x64x512 .f32 ← Prog.lift (.load (Memref.whole cc0_scratch1) (Rect.unit (s := S2x8x64x512) ![1, 0, 0, 0] S1x8x64x512.size inb_S2x8x64x512_S1x8x64x512_1_0_0_0).toLoadRect (View.loadsAt_vmem h_S1x8x64x512))
  let v48 : Vec F S1x8x64x512 .bf16 ← Prog.lift (.load (Memref.whole cc0_scratch3) (Rect.unit (s := S2x8x64x512) ![1, 0, 0, 0] S1x8x64x512.size inb_S2x8x64x512_S1x8x64x512_1_0_0_0).toLoadRect (View.loadsAt_vmem h_S1x8x64x512))
  Prog.lift (.store (Memref.whole cc0_scratch3) (Rect.unit (s := S2x8x64x512) ![1, 0, 0, 0] S1x8x64x512.size inb_S2x8x64x512_S1x8x64x512_1_0_0_0) (k0_pay3 v45) Finset.univ (View.stores_vmem h_S1x8x64x512 ((Memref.isWhole_whole cc0_scratch3).storeExact_slice rfl _ packedbf16_S2x8x64x512_S1x8x64x512_1_0_0_0) (fun _ => rfl)) (.inl rfl))
  let v51 : BitVec 32 := Scalar.muli v8 4#32
  let v52 : BitVec 32 := Scalar.addi 0#32 v51
  let v53 : BitVec 32 := Scalar.muli v11 2#32
  let v54 : BitVec 32 := Scalar.addi v52 v53
  pure v54

theorem part2_eq (d6 : Dev nD) (v8 : BitVec 32) (v11 : BitVec 32) (v15 : BitVec 32) (v27 : FVec F S8x64x512 .bf16) : k0_part2 (F := F) (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15 v27 = part2 d6 v8 v11 v15 v27 := rfl

/-- Part 3, its transfers named. -/
def part3 (d6 : Dev nD) (v8 : BitVec 32) (v11 : BitVec 32) (v15 : BitVec 32) (v54 : BitVec 32) : Prog (TpuEff nD τ sig (Elt F) Λ₀ .tc) (PUnit) := do
  sendKhi (⟨k0_dev3 d6, k0_dev3_lt d6⟩ : Dev nD)
  Prog.lift (.waitDma2 ((cc0_scratch8.slice (Rect.unit (s := S3) ![1] S1.size inb_S3_S1_1)).squeeze S_ squeezes_S1_S_).sem (Memref.whole main_v3) (Memref.whole cc0_scratch2) (Memref.isWhole_whole main_v3).wordExact (Memref.isWhole_whole cc0_scratch2).wordExact)
  let v67 : Vec F S1x8x64x512 .f32 ← Prog.lift (.load (Memref.whole cc0_scratch2) (Rect.unit (s := S2x8x64x512) ![0, 0, 0, 0] S1x8x64x512.size inb_S2x8x64x512_S1x8x64x512_0_0_0_0).toLoadRect (View.loadsAt_vmem h_S1x8x64x512))
  let v70 : Vec F S1x8x64x512 .fp8e4m3 ← Prog.lift (.load (Memref.whole cc0_scratch4) (Rect.unit (s := S2x8x64x512) ![0, 0, 0, 0] S1x8x64x512.size inb_S2x8x64x512_S1x8x64x512_0_0_0_0).toLoadRect (View.loadsAt_vmem h_S1x8x64x512))
  Prog.lift (.store (Memref.whole cc0_scratch4) (Rect.unit (s := S2x8x64x512) ![0, 0, 0, 0] S1x8x64x512.size inb_S2x8x64x512_S1x8x64x512_0_0_0_0) (k0_pay4 v67) Finset.univ (View.stores_vmem h_S1x8x64x512 ((Memref.isWhole_whole cc0_scratch4).storeExact_slice rfl _ packedfp8e4m3_S2x8x64x512_S1x8x64x512_0_0_0_0) (fun _ => rfl)) (.inl rfl))
  pure ⟨⟩

theorem part3_eq (d6 : Dev nD) (v8 : BitVec 32) (v11 : BitVec 32) (v15 : BitVec 32) (v54 : BitVec 32) : k0_part3 (F := F) (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15 v54 = part3 d6 v8 v11 v15 v54 := rfl

/-- Part 4, its transfers named. -/
def part4 (d6 : Dev nD) (v8 : BitVec 32) (v11 : BitVec 32) (v15 : BitVec 32) : Prog (TpuEff nD τ sig (Elt F) Λ₀ .tc) (Σ' (v109 : Vec F S2x8x64x512 .f32), F .f32) := do
  sendVlo (⟨k0_dev4 d6, k0_dev4_lt d6⟩ : Dev nD)
  let v87 : Vec F S1x8x64x512 .f32 ← Prog.lift (.load (Memref.whole cc0_scratch2) (Rect.unit (s := S2x8x64x512) ![1, 0, 0, 0] S1x8x64x512.size inb_S2x8x64x512_S1x8x64x512_1_0_0_0).toLoadRect (View.loadsAt_vmem h_S1x8x64x512))
  let v90 : Vec F S1x8x64x512 .fp8e4m3 ← Prog.lift (.load (Memref.whole cc0_scratch4) (Rect.unit (s := S2x8x64x512) ![1, 0, 0, 0] S1x8x64x512.size inb_S2x8x64x512_S1x8x64x512_1_0_0_0).toLoadRect (View.loadsAt_vmem h_S1x8x64x512))
  Prog.lift (.store (Memref.whole cc0_scratch4) (Rect.unit (s := S2x8x64x512) ![1, 0, 0, 0] S1x8x64x512.size inb_S2x8x64x512_S1x8x64x512_1_0_0_0) (k0_pay5 v87) Finset.univ (View.stores_vmem h_S1x8x64x512 ((Memref.isWhole_whole cc0_scratch4).storeExact_slice rfl _ packedfp8e4m3_S2x8x64x512_S1x8x64x512_1_0_0_0) (fun _ => rfl)) (.inl rfl))
  sendVhi (⟨k0_dev5 d6, k0_dev5_lt d6⟩ : Dev nD)
  Prog.lift (.waitDma2 ((cc0_scratch8.slice (Rect.unit (s := S3) ![2] S1.size inb_S3_S1_2)).squeeze S_ squeezes_S1_S_).sem (Memref.whole main_v1) (Memref.whole cc0_scratch0) (Memref.isWhole_whole main_v1).wordExact (Memref.isWhole_whole cc0_scratch0).wordExact)
  let v109 : Vec F S2x8x64x512 .f32 ← Prog.lift (.load (Memref.whole cc0_scratch0) (Rect.unit (s := S2x8x64x512) ![0, 0, 0, 0] S2x8x64x512.size inb_S2x8x64x512_S2x8x64x512_0_0_0_0).toLoadRect (View.loadsAt_vmem h_S2x8x64x512))
  have cst : F .f32 := Named.named κ "qscale" 0x3E38AA3B#32
  pure ⟨v109, cst⟩

theorem part4_eq (d6 : Dev nD) (v8 : BitVec 32) (v11 : BitVec 32) (v15 : BitVec 32) : k0_part4 (F := F) (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15 = part4 d6 v8 v11 v15 := rfl

/-! ## Running the transfers -/

section Runs
variable (KT VT : Dev nD → Tile F .f32)

/-- Running a transfer: its row, its cells and a debt in; a credit and the rest owed out. -/
theorem run_K_lo (K : GSem nD τ sig → ℕ) (c d : Dev nD) (hd : d = peer c) (f : Tile F .bf16) (W : Waits sig Unit) {Q : PUnit → sProp 𝕄} :
    iprop(cellInv ER (Rd KT VT) (K (cell c 1)) ((c : Thread nD τ), .dma 5) ∗ cellInv ER (Rd KT VT) (K (cell (peer c) 2)) ((peer c : Thread nD τ), .dma 6)
        ∗ pts (lo mK8) c (K8 (KT c)) ∗ pts (lo mKo) (peer c) f ∗ owes c (owedK0 c) W
        ∗ dutyTok ER ((c : Thread nD τ), .dma 5) 0 () ∗ reached ER ((c : Thread nD τ), .dma 5) 0
        ∗ dutyTok ER ((peer c : Thread nD τ), .dma 6) 0 () ∗ reached ER ((peer c : Thread nD τ), .dma 6) 0)
      ⊢ iprop(((cred (tallyAt ((c : Thread nD τ), .dma 5) () NK) ∗ owes c (owedK1 c) W) -∗ Q ⟨⟩)
          -∗ wp frame (wpE (defs₀ (F := F)) 𝒱₀ (c : Thread nD τ) none) Set.univ (sendKlo d) Q) := by
  have h := send_K_lo (Q := Q) (k := Prog.ret) (hsc := rfl) (hsrc := (((Memref.isWhole_whole _).wordExact_slice rfl _ wordsbf16_S2x8x64x512_S1x8x64x512_0_0_0_0).reshape _ _)) (hdst := (((Memref.isWhole_whole _).wordExact_slice rfl _ wordsbf16_S2x8x64x512_S1x8x64x512_0_0_0_0).reshape _ _)) (hsem := ⟨⟨rfl, Or.inl rfl⟩, trivial⟩) KT VT K c d hd f W
  exact h.trans (wand_mono (wand_mono Entails.rfl (le_wp_ret _ _ _ _ _)) Entails.rfl)

theorem run_K_hi (K : GSem nD τ sig → ℕ) (c d : Dev nD) (hd : d = peer c) (f : Tile F .bf16) (W : Waits sig Unit) {Q : PUnit → sProp 𝕄} :
    iprop(cellInv ER (Rd KT VT) (K (cell c 3)) ((c : Thread nD τ), .dma 7) ∗ cellInv ER (Rd KT VT) (K (cell (peer c) 4)) ((peer c : Thread nD τ), .dma 8)
        ∗ pts (hi mK8) c (K8 (KT c)) ∗ pts (hi mKo) (peer c) f ∗ owes c (owedK1 c) W
        ∗ dutyTok ER ((c : Thread nD τ), .dma 7) 0 () ∗ reached ER ((c : Thread nD τ), .dma 7) 0
        ∗ dutyTok ER ((peer c : Thread nD τ), .dma 8) 0 () ∗ reached ER ((peer c : Thread nD τ), .dma 8) 0)
      ⊢ iprop(((cred (tallyAt ((c : Thread nD τ), .dma 7) () NK) ∗ owes c (owedV0 c) W) -∗ Q ⟨⟩)
          -∗ wp frame (wpE (defs₀ (F := F)) 𝒱₀ (c : Thread nD τ) none) Set.univ (sendKhi d) Q) := by
  have h := send_K_hi (Q := Q) (k := Prog.ret) (hsc := rfl) (hsrc := (((Memref.isWhole_whole _).wordExact_slice rfl _ wordsbf16_S2x8x64x512_S1x8x64x512_1_0_0_0).reshape _ _)) (hdst := (((Memref.isWhole_whole _).wordExact_slice rfl _ wordsbf16_S2x8x64x512_S1x8x64x512_1_0_0_0).reshape _ _)) (hsem := ⟨⟨rfl, Or.inl rfl⟩, trivial⟩) KT VT K c d hd f W
  exact h.trans (wand_mono (wand_mono Entails.rfl (le_wp_ret _ _ _ _ _)) Entails.rfl)

theorem run_V_lo (K : GSem nD τ sig → ℕ) (c d : Dev nD) (hd : d = peer c) (f : Tile F .fp8e4m3) (W : Waits sig Unit) {Q : PUnit → sProp 𝕄} :
    iprop(cellInv ER (Rd KT VT) (K (cell c 5)) ((c : Thread nD τ), .dma 9) ∗ cellInv ER (Rd KT VT) (K (cell (peer c) 6)) ((peer c : Thread nD τ), .dma 10)
        ∗ pts (lo mV8) c (V8 (VT c)) ∗ pts (lo mVo) (peer c) f ∗ owes c (owedV0 c) W
        ∗ dutyTok ER ((c : Thread nD τ), .dma 9) 0 () ∗ reached ER ((c : Thread nD τ), .dma 9) 0
        ∗ dutyTok ER ((peer c : Thread nD τ), .dma 10) 0 () ∗ reached ER ((peer c : Thread nD τ), .dma 10) 0)
      ⊢ iprop(((cred (tallyAt ((c : Thread nD τ), .dma 9) () NV) ∗ owes c (owedV1 c) W) -∗ Q ⟨⟩)
          -∗ wp frame (wpE (defs₀ (F := F)) 𝒱₀ (c : Thread nD τ) none) Set.univ (sendVlo d) Q) := by
  have h := send_V_lo (Q := Q) (k := Prog.ret) (hsc := rfl) (hsrc := (((Memref.isWhole_whole _).wordExact_slice rfl _ wordsfp8e4m3_S2x8x64x512_S1x8x64x512_0_0_0_0).reshape _ _)) (hdst := (((Memref.isWhole_whole _).wordExact_slice rfl _ wordsfp8e4m3_S2x8x64x512_S1x8x64x512_0_0_0_0).reshape _ _)) (hsem := ⟨⟨rfl, Or.inl rfl⟩, trivial⟩) KT VT K c d hd f W
  exact h.trans (wand_mono (wand_mono Entails.rfl (le_wp_ret _ _ _ _ _)) Entails.rfl)

theorem run_V_hi (K : GSem nD τ sig → ℕ) (c d : Dev nD) (hd : d = peer c) (f : Tile F .fp8e4m3) (W : Waits sig Unit) {Q : PUnit → sProp 𝕄} :
    iprop(cellInv ER (Rd KT VT) (K (cell c 7)) ((c : Thread nD τ), .dma 11) ∗ cellInv ER (Rd KT VT) (K (cell (peer c) 8)) ((peer c : Thread nD τ), .dma 12)
        ∗ pts (hi mV8) c (V8 (VT c)) ∗ pts (hi mVo) (peer c) f ∗ owes c (owedV1 c) W
        ∗ dutyTok ER ((c : Thread nD τ), .dma 11) 0 () ∗ reached ER ((c : Thread nD τ), .dma 11) 0
        ∗ dutyTok ER ((peer c : Thread nD τ), .dma 12) 0 () ∗ reached ER ((peer c : Thread nD τ), .dma 12) 0)
      ⊢ iprop(((cred (tallyAt ((c : Thread nD τ), .dma 11) () NV) ∗ owes c (0) W) -∗ Q ⟨⟩)
          -∗ wp frame (wpE (defs₀ (F := F)) 𝒱₀ (c : Thread nD τ) none) Set.univ (sendVhi d) Q) := by
  have h := send_V_hi (Q := Q) (k := Prog.ret) (hsc := rfl) (hsrc := (((Memref.isWhole_whole _).wordExact_slice rfl _ wordsfp8e4m3_S2x8x64x512_S1x8x64x512_1_0_0_0).reshape _ _)) (hdst := (((Memref.isWhole_whole _).wordExact_slice rfl _ wordsfp8e4m3_S2x8x64x512_S1x8x64x512_1_0_0_0).reshape _ _)) (hsem := ⟨⟨rfl, Or.inl rfl⟩, trivial⟩) KT VT K c d hd f W
  exact h.trans (wand_mono (wand_mono Entails.rfl (le_wp_ret _ _ _ _ _)) Entails.rfl)

end Runs

/-! ## The body in two -/

/-- The body from part 5 on. -/
def rest (d6 : Dev nD) (v8 v11 v15 : BitVec 32) (v109 : Vec F S2x8x64x512 .f32) (cst : F .f32) : Prog (TpuEff nD τ sig (Elt F) Λ₀ .tc) PUnit := do
  let ⟨v112, v121, v126, v135, v140, v143⟩ : Σ' (v112 : FVec F S2x8x64x512 .bf16) (v121 : FVec F S1x512 .f32) (v126 : FVec F S64x512 .f32) (v135 : FVec F S1x512 .f32) (v140 : FVec F S64x512 .f32), FVec F S64x512 .bf16 ← k0_part5 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v109 cst
  let ⟨v149, v154, v163, v168, v175, v177⟩ : Σ' (v149 : FVec F S1x512 .f32) (v154 : FVec F S64x512 .f32) (v163 : FVec F S1x512 .f32) (v168 : FVec F S64x512 .f32) (v175 : FVec F S512x512 .f32), FVec F S1x512 .f32 ← k0_part6 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112 v143
  let ⟨v182, v191, v196, v205, v210⟩ : Σ' (v182 : FVec F S64x512 .f32) (v191 : FVec F S1x512 .f32) (v196 : FVec F S64x512 .f32) (v205 : FVec F S1x512 .f32), FVec F S64x512 .f32 ← k0_part7 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112 v175
  let ⟨v219, v224, v233, v238, v245⟩ : Σ' (v219 : FVec F S1x512 .f32) (v224 : FVec F S64x512 .f32) (v233 : FVec F S1x512 .f32) (v238 : FVec F S64x512 .f32), FVec F S512x512 .f32 ← k0_part8 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112
  let ⟨v247, v252, v261, v266, v273, v275, v278⟩ : Σ' (v247 : FVec F S1x512 .f32) (v252 : FVec F S64x512 .f32) (v261 : FVec F S1x512 .f32) (v266 : FVec F S64x512 .f32) (v273 : FVec F S512x512 .f32) (v275 : FVec F S1x512 .f32), FVec F S64x512 .bf16 ← k0_part9 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112 v245
  let ⟨v280, v289, v294, v303, v308, v311⟩ : Σ' (v280 : FVec F S64x512 .f32) (v289 : FVec F S1x512 .f32) (v294 : FVec F S64x512 .f32) (v303 : FVec F S1x512 .f32) (v308 : FVec F S64x512 .f32), FVec F S64x512 .bf16 ← k0_part10 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112 v273 v278
  let ⟨v317, v322, v331, v336⟩ : Σ' (v317 : FVec F S1x512 .f32) (v322 : FVec F S64x512 .f32) (v331 : FVec F S1x512 .f32), FVec F S64x512 .f32 ← k0_part11 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112 v311
  k0_part12 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v8 v11 v15
  let ⟨v380, v381, v389, v390, v398, v399⟩ : Σ' (v380 : FVec F S1x512 .f32) (v381 : FVec F S512x512 .bf16) (v389 : FVec F S1x512 .f32) (v390 : FVec F S512x512 .bf16) (v398 : FVec F S1x512 .f32), FVec F S512x512 .bf16 ← k0_part13 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112
  let ⟨v407, v408, v416, v417, v425, v426, v434, v435⟩ : Σ' (v407 : FVec F S1x512 .f32) (v408 : FVec F S512x512 .bf16) (v416 : FVec F S1x512 .f32) (v417 : FVec F S512x512 .bf16) (v425 : FVec F S1x512 .f32) (v426 : FVec F S512x512 .bf16) (v434 : FVec F S1x512 .f32), FVec F S512x512 .bf16 ← k0_part14 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112
  let ⟨v443, v444, v452, v453, v461, v462, v470, v471⟩ : Σ' (v443 : FVec F S1x512 .f32) (v444 : FVec F S512x512 .bf16) (v452 : FVec F S1x512 .f32) (v453 : FVec F S512x512 .bf16) (v461 : FVec F S1x512 .f32) (v462 : FVec F S512x512 .bf16) (v470 : FVec F S1x512 .f32), FVec F S512x512 .bf16 ← k0_part15 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112
  let ⟨v479, v480, v488, v489, v497, v498, v506, v507⟩ : Σ' (v479 : FVec F S1x512 .f32) (v480 : FVec F S512x512 .bf16) (v488 : FVec F S1x512 .f32) (v489 : FVec F S512x512 .bf16) (v497 : FVec F S1x512 .f32) (v498 : FVec F S512x512 .bf16) (v506 : FVec F S1x512 .f32), FVec F S512x512 .bf16 ← k0_part16 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v112
  let ⟨v515, v516⟩ : Σ' (v515 : FVec F S1x512 .f32), FVec F S512x512 .bf16 ← k0_part17 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v8 v11 v15 v112
  let ⟨v567, v568⟩ : Σ' (v567 : FVec F S1x512 .f32), FVec F S64x512 .f32 ← k0_part18 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v121 v126 v135 v140 v149 v154 v380 v381 v389 v390 v398 v399
  k0_part19 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v163 v168 v177 v182 v407 v408 v416 v417 v567 v568
  let ⟨v632, v633⟩ : Σ' (v632 : FVec F S1x512 .f32), FVec F S64x512 .f32 ← k0_part20 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v191 v196 v205 v210 v219 v224 v425 v426 v434 v435 v443 v444
  k0_part21 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v8 v11 v15 v632 v633
  k0_part22 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v233 v238 v247 v252 v452 v453 v461 v462
  let ⟨v718, v721⟩ : Σ' (v718 : FVec F S64x512 .f32), FVec F S1x512 .f32 ← k0_part23 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v261 v266 v275 v280 v289 v470 v471 v479 v480 v488 v489
  k0_part24 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v294 v303 v308 v317 v322 v497 v498 v506 v507 v718 v721
  k0_part25 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v331 v336 v515 v516
  let v781 : Memref sig .tc .hbm S1x8x64x512 .f32 := (Memref.whole main_v4).slice (Rect.unit (s := S2x8x64x512) ![1, 0, 0, 0] S1x8x64x512.size inb_S2x8x64x512_S1x8x64x512_1_0_0_0) (fun _ => rfl)
  let v782 : Memref sig .tc .hbm S8x64x512 .f32 := v781.squeeze S8x64x512 squeezes_S1x8x64x512_S8x64x512
  let v783 : Memref sig .tc .vmem S1x8x64x512 .f32 := (Memref.whole cc0_scratch7).slice (Rect.unit (s := S2x8x64x512) ![1, 0, 0, 0] S1x8x64x512.size inb_S2x8x64x512_S1x8x64x512_1_0_0_0) (fun _ => rfl)
  let v784 : Memref sig .tc .vmem S8x64x512 .f32 := v783.squeeze S8x64x512 squeezes_S1x8x64x512_S8x64x512
  let v779 : DmaSems sig S1 := cc0_scratch9.slice (Rect.unit (s := S2) ![1] S1.size inb_S2_S1_1)
  let v780 : DmaSems sig S_ := v779.squeeze S_ squeezes_S1_S_
  Prog.lift (.waitDma2 v780.sem v784 v782 ((View.wordExact_bits rfl).reshape _ _) ((View.wordExact_bits rfl).reshape _ _))
  pure ⟨⟩

/-- The body: its first four parts, then the rest. -/
theorem body_eq : cc0__body (F := F) (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 = (do
      let ⟨d6, v8, v11, v15, v27⟩ : Σ' (d6 : Dev nD) (v8 : BitVec 32) (v11 : BitVec 32) (v15 : BitVec 32), FVec F S8x64x512 .bf16 ← k0_part1 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10
      let v54 : BitVec 32 ← k0_part2 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15 v27
      k0_part3 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15 v54
      let ⟨v109, cst⟩ : Σ' (v109 : Vec F S2x8x64x512 .f32), F .f32 ← k0_part4 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15
      rest d6 v8 v11 v15 v109 cst) := rfl

end Cert.KernelIdeal.Hand
-- ==== Proof.Body.lean ====
/- The body up to its last loop: the copies in, the narrowing, the sends and the scores (`partA`). -/
module

public import proofs.«01_k».proof.Proof.Sends
public import proofs.«01_k».proof.Proof.Gen.KernelIdeal.Points
public import proofs.«01_k».proof.Proof.Gen.KernelIdeal.Skeleton
public import proofs.«01_k».proof.Proof.Gen.KernelIdeal.Launch
public import Idealize.ShloMosaic.Lib.Exec
public import Idealize.ShloMosaic.Lib.VecWindow

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ
abbrev dS (n : Fin 13) : SemLoc sig := .dma n

theorem mw (c : Dev nD) (s : SemLoc sig) (hs : lvS s ≤ 1) : (levAts L lv : sProp 𝕄) ⊢ MayWait (c : Thread nD τ) s () (owedK0 c) := mayWait_of c s hs _ (onRecv_K0 c)
theorem mwV (c : Dev nD) (s : SemLoc sig) (hs : lvS s ≤ 1) : (levAts L lv : sProp 𝕄) ⊢ MayWait (c : Thread nD τ) s () (owedV0 c) := mayWait_of c s hs _ (onRecv_V0 c)

section
variable (KT VT : Dev nD → Tile F .f32) (c : Dev nD)
theorem d0 : (Rd KT VT).duties (((peer c) : Thread nD τ), .reg 0) 0 = {()} := duties_at KT VT (peer c) 0
theorem a0 (u : Unit) : (Rd KT VT).amount (((peer c) : Thread nD τ), .reg 0) 0 u = 1 := amount_at KT VT (peer c) 0 u
theorem d0' : (Rd KT VT).duties ((c : Thread nD τ), .reg 0) 0 = {()} := duties_at KT VT c 0
theorem a0' (u : Unit) : (Rd KT VT).amount ((c : Thread nD τ), .reg 0) 0 u = 1 := amount_at KT VT c 0 u
theorem p0' (u : Unit) : (Rd KT VT).payload ((c : Thread nD τ), .reg 0) 0 u =
    iprop(landRows (peer c)
    ∗ reached ER ((peer c : Thread nD τ), .dma 6) 0 ∗ reached ER ((peer c : Thread nD τ), .dma 8) 0 ∗ reached ER ((peer c : Thread nD τ), .dma 10) 0 ∗ reached ER ((peer c : Thread nD τ), .dma 12) 0) := payload_at KT VT c 0 u
theorem e0' : (Rd KT VT).expect ((c : Thread nD τ), .reg 0) 0 = 1 := expect_at KT VT c 0

end
attribute [local sl_rounds] d0' a0' p0' e0' peer_peer

/-- The invariants of a device's nine cells, and of its partner's barrier and receive cells. -/
def invs (KT VT : Dev nD → Tile F .f32) (K : GSem nD τ sig → ℕ) (c : Dev nD) : sProp 𝕄 :=
  iprop(cellInv ER (Rd KT VT) (K (cell c 0)) ((c : Thread nD τ), .reg 0)
    ∗ cellInv ER (Rd KT VT) (K (cell c 1)) ((c : Thread nD τ), .dma 5) ∗ cellInv ER (Rd KT VT) (K (cell c 2)) ((c : Thread nD τ), .dma 6)
    ∗ cellInv ER (Rd KT VT) (K (cell c 3)) ((c : Thread nD τ), .dma 7) ∗ cellInv ER (Rd KT VT) (K (cell c 4)) ((c : Thread nD τ), .dma 8)
    ∗ cellInv ER (Rd KT VT) (K (cell c 5)) ((c : Thread nD τ), .dma 9) ∗ cellInv ER (Rd KT VT) (K (cell c 6)) ((c : Thread nD τ), .dma 10)
    ∗ cellInv ER (Rd KT VT) (K (cell c 7)) ((c : Thread nD τ), .dma 11) ∗ cellInv ER (Rd KT VT) (K (cell c 8)) ((c : Thread nD τ), .dma 12)
    ∗ cellInv ER (Rd KT VT) (K (cell (peer c) 0)) ((peer c : Thread nD τ), .reg 0)
    ∗ cellInv ER (Rd KT VT) (K (cell (peer c) 2)) ((peer c : Thread nD τ), .dma 6) ∗ cellInv ER (Rd KT VT) (K (cell (peer c) 4)) ((peer c : Thread nD τ), .dma 8)
    ∗ cellInv ER (Rd KT VT) (K (cell (peer c) 6)) ((peer c : Thread nD τ), .dma 10) ∗ cellInv ER (Rd KT VT) (K (cell (peer c) 8)) ((peer c : Thread nD τ), .dma 12))
/-- The rounds known reached at entry: the partner's barrier's and the own eight transfer cells'. -/
def facts0 (c : Dev nD) : sProp 𝕄 :=
  iprop(reached ER ((peer c : Thread nD τ), .reg 0) 0
    ∗ reached ER ((c : Thread nD τ), .dma 5) 0 ∗ reached ER ((c : Thread nD τ), .dma 6) 0 ∗ reached ER ((c : Thread nD τ), .dma 7) 0 ∗ reached ER ((c : Thread nD τ), .dma 8) 0
    ∗ reached ER ((c : Thread nD τ), .dma 9) 0 ∗ reached ER ((c : Thread nD τ), .dma 10) 0 ∗ reached ER ((c : Thread nD τ), .dma 11) 0 ∗ reached ER ((c : Thread nD τ), .dma 12) 0)
/-- The duties a device discharges: the partner's barrier, its own departures, the partner's arrivals. -/
def tokens (c : Dev nD) : sProp 𝕄 :=
  iprop(dutyTok ER ((peer c : Thread nD τ), .reg 0) 0 ()
    ∗ dutyTok ER ((c : Thread nD τ), .dma 5) 0 () ∗ dutyTok ER ((c : Thread nD τ), .dma 7) 0 () ∗ dutyTok ER ((c : Thread nD τ), .dma 9) 0 () ∗ dutyTok ER ((c : Thread nD τ), .dma 11) 0 ()
    ∗ dutyTok ER ((peer c : Thread nD τ), .dma 6) 0 () ∗ dutyTok ER ((peer c : Thread nD τ), .dma 8) 0 () ∗ dutyTok ER ((peer c : Thread nD τ), .dma 10) 0 () ∗ dutyTok ER ((peer c : Thread nD τ), .dma 12) 0 ())
/-- A whole buffer may be restated at equal contents. -/
theorem ptEq {sp : Space} {s : Shape} {e : EltTy} (m : Memref sig .tc sp s e) (c : Dev nD) (f g : Buf (Elt F) (m.view.loc (c : Thread nD τ))) (h : f = g) :
    pt m c f ⊢ (pt m c g : sProp 𝕄) := Entails.of_eq (by rw [h])

/-- A device's places at its own transfer cells, all at round `n`. -/
def places (c : Dev nD) (n : ℕ) : sProp 𝕄 :=
  iprop(atPos ER ((c : Thread nD τ), .dma 5) n ∅ 0 ∗ atPos ER ((c : Thread nD τ), .dma 6) n ∅ 0 ∗ atPos ER ((c : Thread nD τ), .dma 7) n ∅ 0 ∗ atPos ER ((c : Thread nD τ), .dma 8) n ∅ 0
    ∗ atPos ER ((c : Thread nD τ), .dma 9) n ∅ 0 ∗ atPos ER ((c : Thread nD τ), .dma 10) n ∅ 0 ∗ atPos ER ((c : Thread nD τ), .dma 11) n ∅ 0 ∗ atPos ER ((c : Thread nD τ), .dma 12) n ∅ 0)

/-- What a device holds once its transfers are under way and its operands staged. -/
def mid (KT VT QT : Dev nD → Tile F .f32) (c : Dev nD) : sProp 𝕄 :=
  iprop(pt (Memref.whole main_v1) c (QT c) ∗ pt (Memref.whole main_v2) c (KT c) ∗ pt (Memref.whole main_v3) c (VT c)
    ∗ pt (Memref.whole cc0_scratch0) c (QT c) ∗ pt (Memref.whole cc0_scratch1) c (KT c) ∗ pt (Memref.whole cc0_scratch2) c (VT c)
    ∗ cred (tallyAt ((c : Thread nD τ), .dma 5) () NK) ∗ cred (tallyAt ((c : Thread nD τ), .dma 7) () NK)
    ∗ cred (tallyAt ((c : Thread nD τ), .dma 9) () NV) ∗ cred (tallyAt ((c : Thread nD τ), .dma 11) () NV)
    ∗ semVal ((c : Thread nD τ), .dma 0) 0 ∗ semVal ((c : Thread nD τ), .dma 1) 0 ∗ semVal ((c : Thread nD τ), .dma 2) 0
    ∗ atPos ER ((c : Thread nD τ), .reg 0) 1 ∅ 0 ∗ (∃ W, owes c 0 W))

set_option maxHeartbeats 400000 in
set_option sl_exec.resultNames true in
theorem partA (k : Dev nD → BitVec 32 → BitVec 32 → BitVec 32 → Vec F S2x8x64x512 .f32 → F .f32 → Prog (TpuEff nD τ sig (Elt F) Λ₀ .tc) PUnit)
    (KT VT : Dev nD → Tile F .f32) (QT : Dev nD → Tile F .f32) (K : GSem nD τ sig → ℕ) (c : Dev nD) (W : Waits sig Unit) (Kt : PUnit → sProp 𝕄) :
    iprop(invs KT VT K c ∗ levAts L lv ∗ facts0 (F := F) c ∗ tokens (F := F) c ∗ atPos ER ((c : Thread nD τ), .reg 0) 0 ∅ 0
      ∗ cred (tallyAt ((c : Thread nD τ), .reg 0) () 1)
      ∗ semVal ((c : Thread nD τ), .dma 0) 0 ∗ semVal ((c : Thread nD τ), .dma 1) 0 ∗ semVal ((c : Thread nD τ), .dma 2) 0
      ∗ owes c (owedK0 c + tallyAt (((peer c) : Thread nD τ), .reg 0) () 1) W
      ∗ pt (Memref.whole main_v1) c (QT c) ∗ pt (Memref.whole main_v2) c (KT c) ∗ pt (Memref.whole main_v3) c (VT c)
      ∗ (∃ f, pt (Memref.whole cc0_scratch0) c f) ∗ (∃ f, pt (Memref.whole cc0_scratch1) c f) ∗ (∃ f, pt (Memref.whole cc0_scratch2) c f)
      ∗ (∃ f, pts (lo mK8) c f) ∗ (∃ f, pts (hi mK8) c f) ∗ (∃ f, pts (lo mV8) c f) ∗ (∃ f, pts (hi mV8) c f)
      ∗ landRows c
      ∗ (∀ v8 v11 v15, mid KT VT QT c -∗ wp frame (wpE (defs₀ (F := F)) 𝒱₀ (c : Thread nD τ) none) Set.univ (k c v8 v11 v15 (QT c) (Named.named κ "qscale" 0x3E38AA3B#32)) Kt))
    ⊢ wp frame (wpE (defs₀ (F := F)) 𝒱₀ (c : Thread nD τ) none) Set.univ (do
        let ⟨d6, v8, v11, v15, v27⟩ : Σ' (d6 : Dev nD) (v8 : BitVec 32) (v11 : BitVec 32) (v15 : BitVec 32), FVec F S8x64x512 .bf16 ← k0_part1 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10
        let v54 : BitVec 32 ← k0_part2 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15 v27
        k0_part3 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15 v54
        let ⟨v109, cst⟩ : Σ' (v109 : Vec F S2x8x64x512 .f32), F .f32 ← k0_part4 (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 d6 v8 v11 v15
        k d6 v8 v11 v15 v109 cst) Kt := by
  have hmwV := mwV (F := F) c
  have hmw := mw (F := F) c
  have hd := dev1_eq c
  unfold invs facts0 tokens
  iintro ⟨⟨#I0, #I1, #I2, #I3, #I4, #I5, #I6, #I7, #I8, #J0, #J2, #J4, #J6, #J8⟩, #Hlv, ⟨#R0, #R1, #R2, #R3, #R4, #R5, #R6, #R7, #R8⟩,
    ⟨T0, T1, T3, T5, T7, T2, T4, T6, T8⟩, P0, Hc, Hs0, Hs1, Hs2, HO, HQ, HK, HV, Hq, Hk, Hv, Hkl, Hkh, Hvl, Hvh, Hland, Hnext⟩
  icases Hq with ⟨%f0, Hq⟩
  icases Hk with ⟨%f1, Hk⟩
  icases Hv with ⟨%f2, Hv⟩
  icases Hkl with ⟨%f3, Hkl⟩
  icases Hkh with ⟨%f4, Hkh⟩
  icases Hvl with ⟨%f5, Hvl⟩
  icases Hvh with ⟨%f6, Hvh⟩
  rw [k0_part1_eq_skeleton]
  simp only [part2_eq, part3_eq, part4_eq]
  set_option sl_exec.stopBefore "part2" in sl_exec
  unfold landRows part2
  icases P0_pay1 with ⟨⟨%g0, Hko0⟩, ⟨%g1, Hko1⟩, ⟨%g2, Hvo0⟩, ⟨%g3, Hvo1⟩⟩
  icases P0_pay2 with #Q2
  icases P0_pay3 with #Q4
  icases P0_pay4 with #Q6
  icases P0_pay5 with #Q8
  set_option sl_exec.stopBefore "sendKlo" in sl_exec
  ihave Hkl := (ptsCongr (lo mK8) c _ (K8 (KT c)) ?hHkl) $$ Hkl
  case hHkl => exact stored_K_lo _ _ _ (View.write_whole_univ _ _ _)
  rw [wp_bind]
  iapply (run_K_lo KT VT K c _ (dev2_eq c) g0 _) $$ [Hkl Hko0 HO T1 T2]
  · isplitr; · iexact I1
    isplitr; · iexact J2
    isplitl [Hkl]; · iexact Hkl
    isplitl [Hko0]; · iexact Hko0
    isplitl [HO]; · iexact HO
    isplitl [T1]; · iexact T1
    isplitr; · iexact R1
    isplitl [T2]; · iexact T2
    iexact Q2
  iintro ⟨C1, HO⟩
  set_option sl_exec.stopBefore "part3" in sl_exec
  unfold part3
  set_option sl_exec.stopBefore "sendKhi" in sl_exec
  ihave Hkh := (ptsCongr (hi mK8) c _ (K8 (KT c)) ?hHkh) $$ Hkh
  case hHkh => exact stored_K_hi _ _ _ (View.write_whole_univ _ _ _)
  rw [wp_bind]
  iapply (run_K_hi KT VT K c _ (dev3_eq c) g1 _) $$ [Hkh Hko1 HO T3 T4]
  · isplitr; · iexact I3
    isplitr; · iexact J4
    isplitl [Hkh]; · iexact Hkh
    isplitl [Hko1]; · iexact Hko1
    isplitl [HO]; · iexact HO
    isplitl [T3]; · iexact T3
    isplitr; · iexact R3
    isplitl [T4]; · iexact T4
    iexact Q4
  iintro ⟨C3, HO⟩
  set_option sl_exec.stopBefore "part4" in sl_exec
  unfold part4
  set_option sl_exec.stopBefore "sendVlo" in sl_exec
  ihave Hvl := (ptsCongr (lo mV8) c _ (V8 (VT c)) ?hHvl) $$ Hvl
  case hHvl => exact stored_V_lo _ _ _ (View.write_whole_univ _ _ _)
  rw [wp_bind]
  iapply (run_V_lo KT VT K c _ (dev4_eq c) g2 _) $$ [Hvl Hvo0 HO T5 T6]
  · isplitr; · iexact I5
    isplitr; · iexact J6
    isplitl [Hvl]; · iexact Hvl
    isplitl [Hvo0]; · iexact Hvo0
    isplitl [HO]; · iexact HO
    isplitl [T5]; · iexact T5
    isplitr; · iexact R5
    isplitl [T6]; · iexact T6
    iexact Q6
  iintro ⟨C5, HO⟩
  set_option sl_exec.stopBefore "sendVhi" in sl_exec
  ihave Hvh := (ptsCongr (hi mV8) c _ (V8 (VT c)) ?hHvh) $$ Hvh
  case hHvh => exact stored_V_hi _ _ _ (View.write_whole_univ _ _ _)
  rw [wp_bind]
  iapply (run_V_hi KT VT K c _ (dev5_eq c) g3 _) $$ [Hvh Hvo1 HO T7 T8]
  · isplitr; · iexact I7
    isplitr; · iexact J8
    isplitl [Hvh]; · iexact Hvh
    isplitl [Hvo1]; · iexact Hvo1
    isplitl [HO]; · iexact HO
    isplitl [T7]; · iexact T7
    isplitr; · iexact R7
    isplitl [T8]; · iexact T8
    iexact Q8
  iintro ⟨C7, HO⟩
  sl_exec
  have hq : partA.sl.v109 QT c f0 = QT c := (View.readAt_full _ _ _).trans (View.write_whole_univ _ _ _)
  simp only [hq]
  ihave Hk := (ptEq (Memref.whole cc0_scratch1) c _ (KT c) ?hk) $$ Hk
  case hk => exact View.write_whole_univ _ _ _
  ihave Hv := (ptEq (Memref.whole cc0_scratch2) c _ (VT c) ?hv) $$ Hv
  case hv => exact View.write_whole_univ _ _ _
  ihave Hq := (ptEq (Memref.whole cc0_scratch0) c _ (QT c) ?hq) $$ Hq
  case hq => exact View.write_whole_univ _ _ _
  ispecialize Hnext $$ %(partA.sl.v8 c) %(partA.sl.v11 c) %(partA.sl.v15 c)
  iapply Hnext
  unfold mid
  isplitl [HQ]; · iexact HQ
  isplitl [HK]; · iexact HK
  isplitl [HV]; · iexact HV
  isplitl [Hq]; · iexact Hq
  isplitl [Hk]; · iexact Hk
  isplitl [Hv]; · iexact Hv
  isplitl [C1]; · iexact C1
  isplitl [C3]; · iexact C3
  isplitl [C5]; · iexact C5
  isplitl [C7]; · iexact C7
  isplitl [Hs0]; · iexact Hs0
  isplitl [Hs1]; · iexact Hs1
  isplitl [Hs2]; · iexact Hs2
  isplitl [P0]; · iexact P0
  iexists _
  iexact HO

end Cert.KernelIdeal.Hand
-- ==== Proof.Heads.lean ====
/- What the kernel leaves in its output tile, head by head. -/
module

public import proofs.«01_k».proof.Proof.Sends

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! # What the kernel leaves in its output, head by head -/

abbrev mOt : Memref sig .tc .vmem S2x8x64x512 .f32 := Memref.whole cc0_scratch7
abbrev mOut : Memref sig .tc .hbm S2x8x64x512 .f32 := Memref.whole main_v4

/-- A batch row and a head, as a rectangle of a tile. -/
theorem inbH (b : Fin 2) (h : Fin 8) : ∀ a, (![b.val, h.val, 0, 0] : Fin 4 → ℕ) a + S1x1x64x512.size a ≤ S2x8x64x512.size a := by
  intro a
  have := b.isLt; have := h.isLt
  fin_cases a
  · show b.val + 1 ≤ 2; omega
  · show h.val + 1 ≤ 8; omega
  · show 0 + 64 ≤ 64; omega
  · show 0 + 512 ≤ 512; omega
abbrev rH (off : Fin 4 → ℕ) (inb : ∀ a, off a + S1x1x64x512.size a ≤ S2x8x64x512.size a) : Rect S2x8x64x512 := Rect.unit (s := S2x8x64x512) off S1x1x64x512.size inb

section Head
variable (off : Fin 4 → ℕ) (inb : ∀ a, off a + S1x1x64x512.size a ≤ S2x8x64x512.size a)

/-- The scaled queries of a head. -/
def qH (w : FVec F S2x8x64x512 .bf16) : FVec F S64x512 .bf16 := shapeCast S64x512 (extractStridedSlice S1x1x64x512 off w ⟨rfl, inb⟩) shapeCasts_S1x1x64x512_S64x512
/-- The powers of the scores of a head against keys. -/
def eH (k : FVec F S64x512 .bf16) (q : FVec F S64x512 .bf16) : FVec F S512x512 .f32 :=
  exp2 (matmul dot_S64x512_S64x512_S512x512_0_0_1_1_n_n none k q (constant S512x512 .f32 0x00000000#32))
/-- Their sums over the keys. -/
def lH (e : FVec F S512x512 .f32) : FVec F S1x512 .f32 :=
  shapeCast S1x512 (multiReduction .add [0] S512 e 0x00000000#32 reduces_S512x512_S512 (.inl rfl) rfl) shapeCasts_S512_S1x512
/-- The values weighed by them. -/
def aH (v : FVec F S64x512 .bf16) (e : FVec F S512x512 .f32) : FVec F S64x512 .f32 :=
  matmul dot_S64x512_S512x512_S64x512_1_0_0_1_n_n none v (truncf .bf16 e bitsLt_bf16_f32) (constant S64x512 .f32 0x00000000#32)
/-- A head's output from its own half and the partner's. -/
def oH (l l' : FVec F S1x512 .f32) (a a' : FVec F S64x512 .f32) : FVec F S1x1x64x512 .f32 :=
  shapeCast S1x1x64x512 (mulf (addf a a') (broadcastTo S64x512 (divf (broadcast S1x512 (Scalar.ofBits .f32 0x3F800000#32)) (addf l l')) broadcasts_S1x512_S64x512))
    shapeCasts_S64x512_S1x1x64x512

/-- Output block of a head, out of the queries, the own keys and values, and the partner's. -/
def headVec (q k v : Tile F .f32) (ko : Tile F .bf16) (vo : Tile F .fp8e4m3) : FVec F S1x1x64x512 .f32 :=
  oH (lH (eH (truncf .bf16 (shapeCast S64x512 ((Memref.whole cc0_scratch1).view.readAt (Elt F) (rH off inb).toLoadRect k) shapeCasts_S1x1x64x512_S64x512) bitsLt_bf16_f32)
        (qH off inb (k0_pay6 q (Named.named κ "qscale" 0x3E38AA3B#32)))))
    (lH (eH (shapeCast S64x512 ((Memref.whole cc0_scratch5).view.readAt (Elt F) (rH off inb).toLoadRect ko) shapeCasts_S1x1x64x512_S64x512)
        (qH off inb (k0_pay6 q (Named.named κ "qscale" 0x3E38AA3B#32)))))
    (aH (truncf .bf16 (shapeCast S64x512 ((Memref.whole cc0_scratch2).view.readAt (Elt F) (rH off inb).toLoadRect v) shapeCasts_S1x1x64x512_S64x512) bitsLt_bf16_f32)
      (eH (truncf .bf16 (shapeCast S64x512 ((Memref.whole cc0_scratch1).view.readAt (Elt F) (rH off inb).toLoadRect k) shapeCasts_S1x1x64x512_S64x512) bitsLt_bf16_f32)
        (qH off inb (k0_pay6 q (Named.named κ "qscale" 0x3E38AA3B#32)))))
    (aH (extf .bf16 (shapeCast S64x512 ((Memref.whole cc0_scratch6).view.readAt (Elt F) (rH off inb).toLoadRect vo) shapeCasts_S1x1x64x512_S64x512) bitsLt_fp8e4m3_bf16)
      (eH (shapeCast S64x512 ((Memref.whole cc0_scratch5).view.readAt (Elt F) (rH off inb).toLoadRect ko) shapeCasts_S1x1x64x512_S64x512)
        (qH off inb (k0_pay6 q (Named.named κ "qscale" 0x3E38AA3B#32)))))
end Head

/-- The position of an element within its head's block. -/
def inH (i : S2x8x64x512.Idx) : S1x1x64x512.Idx := fun a => match a with
  | ⟨0, _⟩ => (⟨0, Nat.one_pos⟩ : Fin 1)
  | ⟨1, _⟩ => (⟨0, Nat.one_pos⟩ : Fin 1)
  | ⟨2, _⟩ => i 2
  | ⟨3, _⟩ => i 3
/-- The output tile. -/
def outT (q k v : Tile F .f32) (ko : Tile F .bf16) (vo : Tile F .fp8e4m3) : Tile F .f32 := fun i =>
  headVec ![(i 0).val, (i 1).val, 0, 0] (inbH (i 0) (i 1)) q k v ko vo (inH i)

theorem outT_emb (b : Fin 2) (h : Fin 8) (inb : ∀ a, (![b.val, h.val, 0, 0] : Fin 4 → ℕ) a + S1x1x64x512.size a ≤ S2x8x64x512.size a)
    (q k v : Tile F .f32) (ko : Tile F .bf16) (vo : Tile F .fp8e4m3) (x : S1x1x64x512.Idx) :
    outT q k v ko vo ((rH ![b.val, h.val, 0, 0] inb).emb x) = headVec ![b.val, h.val, 0, 0] inb q k v ko vo x := by
  have x0 : (x 0).val = 0 := Nat.lt_one_iff.mp (x 0).isLt
  have x1 : (x 1).val = 0 := Nat.lt_one_iff.mp (x 1).isLt
  have e0 : (((rH ![b.val, h.val, 0, 0] inb).emb x) 0).val = b.val := by show b.val + 1 * (x 0).val = b.val; omega
  have e1 : (((rH ![b.val, h.val, 0, 0] inb).emb x) 1).val = h.val := by show h.val + 1 * (x 1).val = h.val; omega
  have ex : inH ((rH ![b.val, h.val, 0, 0] inb).emb x) = x := by
    funext a
    fin_cases a
    · exact Fin.ext x0.symm
    · exact Fin.ext x1.symm
    · exact Fin.ext (by show 0 + 1 * (x 2).val = (x 2).val; omega)
    · exact Fin.ext (by show 0 + 1 * (x 3).val = (x 3).val; omega)
  have key : ∀ (o o' : Fin 4 → ℕ) (i : ∀ a, o a + S1x1x64x512.size a ≤ S2x8x64x512.size a) (i' : ∀ a, o' a + S1x1x64x512.size a ≤ S2x8x64x512.size a), o = o' →
      headVec o i q k v ko vo x = headVec o' i' q k v ko vo x := by
    rintro o _ i i' rfl; rfl
  unfold outT
  rw [ex]
  exact key _ _ _ _ (by rw [e0, e1])

/-- Contents agreeing with `g` on the first `n` heads of row `b`. -/
def Upto (b n : ℕ) (f g : Tile F .f32) : Prop := ∀ i : S2x8x64x512.Idx, (i 0).val = b → (i 1).val < n → f i = g i

theorem Upto.zero (b : ℕ) (f g : Tile F .f32) : Upto b 0 f g := fun _ _ h => absurd h (Nat.not_lt_zero _)

/-- Storing one more head. -/
theorem Upto.store {f g : Tile F .f32} {b : Fin 2} {h : Fin 8} (hf : Upto b.val h.val f g) (inb : ∀ a, (![b.val, h.val, 0, 0] : Fin 4 → ℕ) a + S1x1x64x512.size a ≤ S2x8x64x512.size a)
    (w : S1x1x64x512.Idx → Elt F .f32) (hw : ∀ x, w x = g ((rH ![b.val, h.val, 0, 0] inb).emb x)) :
    Upto b.val (h.val + 1) ((mOt.view.slice (rH ![b.val, h.val, 0, 0] inb)).write (Elt F) f w Finset.univ) g := by
  intro i hb hi
  by_cases hm : i ∈ (mOt.view.slice (rH ![b.val, h.val, 0, 0] inb)).set
  · exact write_agree (mOt.view.slice (rH ![b.val, h.val, 0, 0] inb)) f g w (fun x => (hw x).symm) i hm
  · rw [View.write_of_not_mem _ _ _ (fun h' => hm (View.setOn_subset_set _ _ h'))]
    refine hf i hb (Nat.lt_of_le_of_ne (Nat.lt_succ_iff.mp hi) fun hne => hm ?_)
    have : i = (rH ![b.val, h.val, 0, 0] inb).emb (inH i) := by
      funext a
      fin_cases a
      · exact Fin.ext (by show (i 0).val = b.val + 1 * 0; omega)
      · exact Fin.ext (by show (i 1).val = h.val + 1 * 0; omega)
      · exact Fin.ext (by show (i 2).val = 0 + 1 * (i 2).val; omega)
      · exact Fin.ext (by show (i 3).val = 0 + 1 * (i 3).val; omega)
    rw [this]
    exact Finset.mem_map_of_mem _ (Finset.mem_univ _)

/-- The same, of a head's block. -/
theorem Upto.head {q k v : Tile F .f32} {ko : Tile F .bf16} {vo : Tile F .fp8e4m3} {f : Tile F .f32} (b : Fin 2) (h : Fin 8) (hf : Upto b.val h.val f (outT q k v ko vo)) :
    Upto b.val (h.val + 1) ((mOt.view.slice (rH ![b.val, h.val, 0, 0] (inbH b h))).write (Elt F) f (headVec ![b.val, h.val, 0, 0] (inbH b h) q k v ko vo) Finset.univ) (outT q k v ko vo) :=
  hf.store (inbH b h) _ fun x => (outT_emb b h _ q k v ko vo x).symm

/-- All eight heads are a row. -/
theorem Upto.row_lo {f g : Tile F .f32} (hf : Upto 0 8 f g) : ∀ i ∈ (lo mOt).view.set, f i = g i := by
  rw [lo_set]
  intro i hi
  obtain ⟨x, -, rfl⟩ := Finset.mem_map.mp hi
  exact hf _ (by show 0 + 1 * (x 0).val = 0; have := Nat.lt_one_iff.mp (x 0).isLt; omega) (((mOt.view.slice r0).emb x 1).isLt)
theorem Upto.row_hi {f g : Tile F .f32} (hf : Upto 1 8 f g) : ∀ i ∈ (hi mOt).view.set, f i = g i := by
  rw [hi_set]
  intro i hi
  obtain ⟨x, -, rfl⟩ := Finset.mem_map.mp hi
  exact hf _ (by show 1 + 1 * (x 0).val = 1; have := Nat.lt_one_iff.mp (x 0).isLt; omega) (((mOt.view.slice r1).emb x 1).isLt)

/-- A row copied out whole holds what the copied row holds. -/
theorem copied_lo (f ft g : Tile F .f32) (w : S8x64x512.Idx → Elt F .f32) (hw : w = ReadAs.same.apply ((lo mOt).view.read (Elt F) ft)) (H : Upto 0 8 ft g) :
    ∀ i ∈ (lo mOut).view.set, (lo mOut).view.writes (Elt F) f [⟨Rect.whole S8x64x512, w⟩] i = g i := by
  subst hw
  intro i hi
  refine write_agree ((lo mOut).view.slice (Rect.whole S8x64x512)) f g _ (fun x => ?_) i (by rw [View.set_slice, Rect.set_whole]; exact hi)
  show g ((lo mOt).view.emb ((Rect.whole S8x64x512).emb x)) = ft ((lo mOt).view.emb x)
  rw [Rect.emb_whole_apply]
  exact (H.row_lo _ (Finset.mem_map_of_mem _ (Finset.mem_univ x))).symm
theorem copied_hi (f ft g : Tile F .f32) (w : S8x64x512.Idx → Elt F .f32) (hw : w = ReadAs.same.apply ((hi mOt).view.read (Elt F) ft)) (H : Upto 1 8 ft g) :
    ∀ i ∈ (hi mOut).view.set, (hi mOut).view.writes (Elt F) f [⟨Rect.whole S8x64x512, w⟩] i = g i := by
  subst hw
  intro i hi'
  refine write_agree ((hi mOut).view.slice (Rect.whole S8x64x512)) f g _ (fun x => ?_) i (by rw [View.set_slice, Rect.set_whole]; exact hi')
  show g ((hi mOt).view.emb ((Rect.whole S8x64x512).emb x)) = ft ((hi mOt).view.emb x)
  rw [Rect.emb_whole_apply]
  exact (H.row_hi _ (Finset.mem_map_of_mem _ (Finset.mem_univ x))).symm

/-! ## A buffer and its two rows -/

theorem rows_univ : r0.set ∪ r1.set = (Finset.univ : Finset S2x8x64x512.Idx) := by
  refine Finset.eq_univ_iff_forall.mpr fun i => ?_
  rw [Finset.mem_union]
  have key (b : ℕ) (hb : (i 0).val = b) : ∀ a : Fin 4, (![b, 0, 0, 0] : Fin 4 → ℕ) a ≤ (i a).val ∧ (i a).val < (![b, 0, 0, 0] : Fin 4 → ℕ) a + S1x8x64x512.size a := by
    intro a
    fin_cases a
    · show b ≤ (i 0).val ∧ (i 0).val < b + 1; omega
    · exact ⟨Nat.zero_le _, by show (i 1).val < 0 + 8; rw [Nat.zero_add]; exact (i 1).isLt⟩
    · exact ⟨Nat.zero_le _, by show (i 2).val < 0 + 64; rw [Nat.zero_add]; exact (i 2).isLt⟩
    · exact ⟨Nat.zero_le _, by show (i 3).val < 0 + 512; rw [Nat.zero_add]; exact (i 3).isLt⟩
  have h2 : (i 0).val < 2 := (i 0).isLt
  rcases Nat.lt_or_ge (i 0).val 1 with h | h
  · exact .inl (Rect.mem_set_unit.mpr (key 0 (by omega)))
  · exact .inr (Rect.mem_set_unit.mpr (key 1 (by omega)))
theorem rows_disjoint : Disjoint r0.set r1.set := Rect.unit_disjoint (0 : Fin 4) (.inl (show 0 + 1 ≤ 1 from Nat.le_refl 1))

section Rows
variable {sp : Space} {e : EltTy} (m : Memref sig .tc sp S2x8x64x512 e) (hm : m.view.set = Finset.univ) (c : Dev nD)
include hm
theorem rows_cover : (lo m).view.set ∪ (hi m).view.set = Finset.univ := by
  rw [lo_set, hi_set, View.set_slice, View.set_slice, ← Finset.map_union, rows_univ]; exact hm
omit hm in
theorem rows_apart : Disjoint (lo m).view.set (hi m).view.set := by
  rw [lo_set, hi_set, View.set_slice, View.set_slice, Finset.disjoint_map]; exact rows_disjoint
/-- A whole buffer is its two rows. -/
theorem rows (f : Buf (Elt F) (m.view.loc (c : Thread nD τ))) : (pt m c f : sProp 𝕄) ⊣⊢ iprop(pts (lo m) c f ∗ pts (hi m) c f) := by
  have h := pointsTo_union (ℓ := m.view.loc (c : Thread nD τ)) (q := fullShare) (f := f) (Name := ℕ) (U := UU) (Lvl := ℕ) (Ix := Unit) (rows_apart m)
  rw [rows_cover m hm] at h
  exact h
theorem rows_ex : (iprop(∃ f, pt m c f) : sProp 𝕄) ⊢ iprop((∃ f, pts (lo m) c f) ∗ (∃ f, pts (hi m) c f)) := by
  iintro ⟨%f, H⟩
  ihave H := (rows m hm c f).1 $$ H
  icases H with ⟨H0, H1⟩
  isplitl [H0]
  · iexists f; iexact H0
  · iexists f; iexact H1
theorem rows_join : (iprop((∃ f, pts (lo m) c f) ∗ (∃ f, pts (hi m) c f)) : sProp 𝕄) ⊢ iprop(∃ f, pt m c f) := by
  iintro ⟨⟨%f, H0⟩, ⟨%g, H1⟩⟩
  have h := pointsTo_join (ℓ := m.view.loc (c : Thread nD τ)) (q := fullShare) (f := f) (g := g) (Name := ℕ) (U := UU) (Lvl := ℕ) (Ix := Unit) (rows_apart m)
  rw [rows_cover m hm] at h
  iexists _
  iapply h
  isplitl [H0]
  · iexact H0
  · iexact H1
end Rows

end Cert.KernelIdeal.Hand
-- ==== Proof.Tail.lean ====
/- The body from the partner's values on: the heads stored, the copies out and their waits (`partB`). -/
module

public import proofs.«01_k».proof.Proof.Body
public import proofs.«01_k».proof.Proof.Heads
public import proofs.«01_k».proof.Proof.Gen.KernelIdeal.Points
public import proofs.«01_k».proof.Proof.Gen.KernelIdeal.Skeleton
public import proofs.«01_k».proof.Proof.Gen.KernelIdeal.Launch
public import Idealize.ShloMosaic.Lib.Exec
public import Idealize.ShloMosaic.Lib.VecWindow

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! # The rest of the body: waiting, and the heads -/

section
variable (KT VT : Dev nD → Tile F .f32) (c : Dev nD)
theorem td5 : (Rd KT VT).duties ((c : Thread nD τ), .dma 5) 0 = {()} := duties_at KT VT c 1
theorem ta5 (u : Unit) : (Rd KT VT).amount ((c : Thread nD τ), .dma 5) 0 u = NK := amount_at KT VT c 1 u
theorem tp5 (u : Unit) : (Rd KT VT).payload ((c : Thread nD τ), .dma 5) 0 u = pts (lo mK8) c (K8 (KT c)) := payload_at KT VT c 1 u
theorem te5 : (Rd KT VT).expect ((c : Thread nD τ), .dma 5) 0 = NK := expect_at KT VT c 1
theorem td6 : (Rd KT VT).duties ((c : Thread nD τ), .dma 6) 0 = {()} := duties_at KT VT c 2
theorem ta6 (u : Unit) : (Rd KT VT).amount ((c : Thread nD τ), .dma 6) 0 u = NK := amount_at KT VT c 2 u
theorem tp6 (u : Unit) : (Rd KT VT).payload ((c : Thread nD τ), .dma 6) 0 u = pts (lo mKo) c (K8 (KT (peer c))) := payload_at KT VT c 2 u
theorem te6 : (Rd KT VT).expect ((c : Thread nD τ), .dma 6) 0 = NK := expect_at KT VT c 2
theorem td7 : (Rd KT VT).duties ((c : Thread nD τ), .dma 7) 0 = {()} := duties_at KT VT c 3
theorem ta7 (u : Unit) : (Rd KT VT).amount ((c : Thread nD τ), .dma 7) 0 u = NK := amount_at KT VT c 3 u
theorem tp7 (u : Unit) : (Rd KT VT).payload ((c : Thread nD τ), .dma 7) 0 u = pts (hi mK8) c (K8 (KT c)) := payload_at KT VT c 3 u
theorem te7 : (Rd KT VT).expect ((c : Thread nD τ), .dma 7) 0 = NK := expect_at KT VT c 3
theorem td8 : (Rd KT VT).duties ((c : Thread nD τ), .dma 8) 0 = {()} := duties_at KT VT c 4
theorem ta8 (u : Unit) : (Rd KT VT).amount ((c : Thread nD τ), .dma 8) 0 u = NK := amount_at KT VT c 4 u
theorem tp8 (u : Unit) : (Rd KT VT).payload ((c : Thread nD τ), .dma 8) 0 u = pts (hi mKo) c (K8 (KT (peer c))) := payload_at KT VT c 4 u
theorem te8 : (Rd KT VT).expect ((c : Thread nD τ), .dma 8) 0 = NK := expect_at KT VT c 4
theorem td9 : (Rd KT VT).duties ((c : Thread nD τ), .dma 9) 0 = {()} := duties_at KT VT c 5
theorem ta9 (u : Unit) : (Rd KT VT).amount ((c : Thread nD τ), .dma 9) 0 u = NV := amount_at KT VT c 5 u
theorem tp9 (u : Unit) : (Rd KT VT).payload ((c : Thread nD τ), .dma 9) 0 u = pts (lo mV8) c (V8 (VT c)) := payload_at KT VT c 5 u
theorem te9 : (Rd KT VT).expect ((c : Thread nD τ), .dma 9) 0 = NV := expect_at KT VT c 5
theorem td10 : (Rd KT VT).duties ((c : Thread nD τ), .dma 10) 0 = {()} := duties_at KT VT c 6
theorem ta10 (u : Unit) : (Rd KT VT).amount ((c : Thread nD τ), .dma 10) 0 u = NV := amount_at KT VT c 6 u
theorem tp10 (u : Unit) : (Rd KT VT).payload ((c : Thread nD τ), .dma 10) 0 u = pts (lo mVo) c (V8 (VT (peer c))) := payload_at KT VT c 6 u
theorem te10 : (Rd KT VT).expect ((c : Thread nD τ), .dma 10) 0 = NV := expect_at KT VT c 6
theorem td11 : (Rd KT VT).duties ((c : Thread nD τ), .dma 11) 0 = {()} := duties_at KT VT c 7
theorem ta11 (u : Unit) : (Rd KT VT).amount ((c : Thread nD τ), .dma 11) 0 u = NV := amount_at KT VT c 7 u
theorem tp11 (u : Unit) : (Rd KT VT).payload ((c : Thread nD τ), .dma 11) 0 u = pts (hi mV8) c (V8 (VT c)) := payload_at KT VT c 7 u
theorem te11 : (Rd KT VT).expect ((c : Thread nD τ), .dma 11) 0 = NV := expect_at KT VT c 7
theorem td12 : (Rd KT VT).duties ((c : Thread nD τ), .dma 12) 0 = {()} := duties_at KT VT c 8
theorem ta12 (u : Unit) : (Rd KT VT).amount ((c : Thread nD τ), .dma 12) 0 u = NV := amount_at KT VT c 8 u
theorem tp12 (u : Unit) : (Rd KT VT).payload ((c : Thread nD τ), .dma 12) 0 u = pts (hi mVo) c (V8 (VT (peer c))) := payload_at KT VT c 8 u
theorem te12 : (Rd KT VT).expect ((c : Thread nD τ), .dma 12) 0 = NV := expect_at KT VT c 8
end
attribute [local sl_rounds] td5 ta5 tp5 te5 td6 ta6 tp6 te6 td7 ta7 tp7 te7 td8 ta8 tp8 te8 td9 ta9 tp9 te9 td10 ta10 tp10 te10 td11 ta11 tp11 te11 td12 ta12 tp12 te12

/-- A device's output tile. -/
def Z (KT VT QT : Dev nD → Tile F .f32) (c : Dev nD) : Tile F .f32 := outT (QT c) (KT c) (VT c) (K8 (KT (peer c))) (V8 (VT (peer c)))

/-- What a device holds once its body has run. -/
def fin (KT VT QT : Dev nD → Tile F .f32) (c : Dev nD) : sProp 𝕄 :=
  iprop(pt (Memref.whole main_v1) c (QT c) ∗ pt (Memref.whole main_v2) c (KT c) ∗ pt (Memref.whole main_v3) c (VT c) ∗ pts (lo mOut) c (Z KT VT QT c) ∗ pts (hi mOut) c (Z KT VT QT c)
    ∗ (∃ f, pt (Memref.whole cc0_scratch0) c f) ∗ (∃ f, pt (Memref.whole cc0_scratch1) c f) ∗ (∃ f, pt (Memref.whole cc0_scratch2) c f)
    ∗ (∃ f, pts (lo mK8) c f) ∗ (∃ f, pts (hi mK8) c f) ∗ (∃ f, pts (lo mV8) c f) ∗ (∃ f, pts (hi mV8) c f)
    ∗ (∃ f, pts (lo mKo) c f) ∗ (∃ f, pts (hi mKo) c f) ∗ (∃ f, pts (lo mVo) c f) ∗ (∃ f, pts (hi mVo) c f)
    ∗ (∃ f, pts (lo mOt) c f) ∗ (∃ f, pts (hi mOt) c f)
    ∗ semVal ((c : Thread nD τ), .dma 0) 0 ∗ semVal ((c : Thread nD τ), .dma 1) 0 ∗ semVal ((c : Thread nD τ), .dma 2) 0
    ∗ semVal ((c : Thread nD τ), .dma 3) 0 ∗ semVal ((c : Thread nD τ), .dma 4) 0
    ∗ atPos ER ((c : Thread nD τ), .reg 0) 1 ∅ 0 ∗ places (F := F) c 1 ∗ (∃ W, owes c 0 W))

set_option maxHeartbeats 1600000 in
set_option maxRecDepth 4096 in
theorem partB (KT VT QT : Dev nD → Tile F .f32) (K : GSem nD τ sig → ℕ) (c : Dev nD) (d6 : Dev nD) (v8 v11 v15 : BitVec 32) (Kt : PUnit → sProp 𝕄) :
    iprop(invs KT VT K c ∗ places (F := F) c 0 ∗ mid KT VT QT c
      ∗ cred (tallyAt ((c : Thread nD τ), .dma 6) () NK) ∗ cred (tallyAt ((c : Thread nD τ), .dma 8) () NK)
      ∗ cred (tallyAt ((c : Thread nD τ), .dma 10) () NV) ∗ cred (tallyAt ((c : Thread nD τ), .dma 12) () NV)
      ∗ semVal ((c : Thread nD τ), .dma 3) 0 ∗ semVal ((c : Thread nD τ), .dma 4) 0
      ∗ (∃ f, pts (lo mOt) c f) ∗ (∃ f, pts (hi mOt) c f) ∗ (∃ f, pts (lo mOut) c f) ∗ (∃ f, pts (hi mOut) c f)
      ∗ (fin KT VT QT c -∗ Kt ⟨⟩))
    ⊢ wp frame (wpE (defs₀ (F := F)) 𝒱₀ (c : Thread nD τ) none) Set.univ (rest d6 v8 v11 v15 (QT c) (Named.named κ "qscale" 0x3E38AA3B#32)) Kt := by
  unfold invs places mid
  iintro ⟨⟨#I0, #I1, #I2, #I3, #I4, #I5, #I6, #I7, #I8, #J0, #J2, #J4, #J6, #J8⟩, ⟨P1, P2, P3, P4, P5, P6, P7, P8⟩,
    ⟨HQ, HK, HV, Hq, Hk, Hv, C1, C3, C5, C7, Hs0, Hs1, Hs2, P0, HO⟩, C2, C4, C6, C8, Hs3, Hs4, Hot, Hot1, Hout, Hout1, Hnext⟩
  icases HO with ⟨%W, HO⟩
  icases Hot with ⟨%f7, Hot⟩
  icases Hout with ⟨%f8, Hout⟩
  icases Hot1 with ⟨%f9, Hot1⟩
  icases Hout1 with ⟨%f10, Hout1⟩
  simp only [rest, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  sl_exec
  have H1 : Upto 0 1 (partB.sl.Hot_w1 KT VT QT c f7) (Z KT VT QT c) := Upto.head 0 0 (Upto.zero 0 _ _)
  have H2 : Upto 0 2 (partB.sl.Hot_w2 KT VT QT c f7) (Z KT VT QT c) := Upto.head 0 1 H1
  have H3 : Upto 0 3 (partB.sl.Hot_w3 KT VT QT c f7) (Z KT VT QT c) := Upto.head 0 2 H2
  have H4 : Upto 0 4 (partB.sl.Hot_w4 KT VT QT c f7) (Z KT VT QT c) := Upto.head 0 3 H3
  have H5 : Upto 0 5 (partB.sl.Hot_w5 KT VT QT c f7) (Z KT VT QT c) := Upto.head 0 4 H4
  have H6 : Upto 0 6 (partB.sl.Hot_w6 KT VT QT c f7) (Z KT VT QT c) := Upto.head 0 5 H5
  have H7 : Upto 0 7 (partB.sl.Hot_w7 KT VT QT c f7) (Z KT VT QT c) := Upto.head 0 6 H6
  have H8 : Upto 0 8 (partB.sl.Hot_w8 KT VT QT c f7) (Z KT VT QT c) := Upto.head 0 7 H7
  have H9 : Upto 1 1 (partB.sl.Hot1_w9 KT VT QT c f9) (Z KT VT QT c) := Upto.head 1 0 (Upto.zero 1 _ _)
  have H10 : Upto 1 2 (partB.sl.Hot1_w10 KT VT QT c f9) (Z KT VT QT c) := Upto.head 1 1 H9
  have H11 : Upto 1 3 (partB.sl.Hot1_w11 KT VT QT c f9) (Z KT VT QT c) := Upto.head 1 2 H10
  have H12 : Upto 1 4 (partB.sl.Hot1_w12 KT VT QT c f9) (Z KT VT QT c) := Upto.head 1 3 H11
  have H13 : Upto 1 5 (partB.sl.Hot1_w13 KT VT QT c f9) (Z KT VT QT c) := Upto.head 1 4 H12
  have H14 : Upto 1 6 (partB.sl.Hot1_w14 KT VT QT c f9) (Z KT VT QT c) := Upto.head 1 5 H13
  have H15 : Upto 1 7 (partB.sl.Hot1_w15 KT VT QT c f9) (Z KT VT QT c) := Upto.head 1 6 H14
  have H16 : Upto 1 8 (partB.sl.Hot1_w16 KT VT QT c f9) (Z KT VT QT c) := Upto.head 1 7 H15
  ihave Hout := (ptsCongr (lo mOut) c _ (Z KT VT QT c) ?hlo) $$ Hout
  case hlo => exact copied_lo f8 _ _ _ rfl H8
  ihave Hout1 := (ptsCongr (hi mOut) c _ (Z KT VT QT c) ?hhi) $$ Hout1
  case hhi => exact copied_hi f10 _ _ _ rfl H16
  iapply (le_wp_ret _ _ _ _ _)
  iapply Hnext
  unfold fin places
  isplitl [HQ]; · iexact HQ
  isplitl [HK]; · iexact HK
  isplitl [HV]; · iexact HV
  isplitl [Hout]; · iexact Hout
  isplitl [Hout1]; · iexact Hout1
  isplitl [Hq]; · iexists _; iexact Hq
  isplitl [Hk]; · iexists _; iexact Hk
  isplitl [Hv]; · iexists _; iexact Hv
  isplitl [P1_pay1]; · iexists _; iexact P1_pay1
  isplitl [P3_pay1]; · iexists _; iexact P3_pay1
  isplitl [P5_pay1]; · iexists _; iexact P5_pay1
  isplitl [P7_pay1]; · iexists _; iexact P7_pay1
  isplitl [P2_pay1]; · iexists _; iexact P2_pay1
  isplitl [P4_pay1]; · iexists _; iexact P4_pay1
  isplitl [P6_pay1]; · iexists _; iexact P6_pay1
  isplitl [P8_pay1]; · iexists _; iexact P8_pay1
  isplitl [Hot]; · iexists _; iexact Hot
  isplitl [Hot1]; · iexists _; iexact Hot1
  isplitl [Hs0]; · iexact Hs0
  isplitl [Hs1]; · iexact Hs1
  isplitl [Hs2]; · iexact Hs2
  isplitl [Hs3]; · iexact Hs3
  isplitl [Hs4]; · iexact Hs4
  isplitl [P0]; · iexact P0
  isplitr [HO]
  · isplitl [P1]; · iexact P1
    isplitl [P2]; · iexact P2
    isplitl [P3]; · iexact P3
    isplitl [P4]; · iexact P4
    isplitl [P5]; · iexact P5
    isplitl [P6]; · iexact P6
    isplitl [P7]; · iexact P7
    iexact P8
  iexists _; iexact HO

end Cert.KernelIdeal.Hand
-- ==== Proof.Run.lean ====
/-
  The kernel's body, run whole: from what a device enters the call with to what it leaves with. Its
  nine cells are closed at the end, so every counter is back in hand at zero.
-/
module

public import proofs.«01_k».proof.Proof.Tail

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-- A device's scoped buffers, each at some contents. -/
def scr (c : Dev nD) : sProp 𝕄 :=
  iprop((∃ f, pt (Memref.whole cc0_scratch0) c f) ∗ (∃ f, pt (Memref.whole cc0_scratch1) c f) ∗ (∃ f, pt (Memref.whole cc0_scratch2) c f)
    ∗ (∃ f, pt mK8 c f) ∗ (∃ f, pt mV8 c f) ∗ (∃ f, pt mKo c f) ∗ (∃ f, pt mVo c f) ∗ (∃ f, pt mOt c f))
/-- A device's eight transfer counters at zero. -/
def sems8 (c : Dev nD) : sProp 𝕄 :=
  iprop(semVal ((c : Thread nD τ), .dma 5) 0 ∗ semVal ((c : Thread nD τ), .dma 6) 0 ∗ semVal ((c : Thread nD τ), .dma 7) 0 ∗ semVal ((c : Thread nD τ), .dma 8) 0
    ∗ semVal ((c : Thread nD τ), .dma 9) 0 ∗ semVal ((c : Thread nD τ), .dma 10) 0 ∗ semVal ((c : Thread nD τ), .dma 11) 0 ∗ semVal ((c : Thread nD τ), .dma 12) 0)
/-- The counters of its local copies at zero. -/
def sems5 (c : Dev nD) : sProp 𝕄 :=
  iprop(semVal ((c : Thread nD τ), .dma 0) 0 ∗ semVal ((c : Thread nD τ), .dma 1) 0 ∗ semVal ((c : Thread nD τ), .dma 2) 0 ∗ semVal ((c : Thread nD τ), .dma 3) 0 ∗ semVal ((c : Thread nD τ), .dma 4) 0)
/-- What others will send it. -/
def creds5 (c : Dev nD) : sProp 𝕄 :=
  iprop(cred (tallyAt ((c : Thread nD τ), .reg 0) () 1) ∗ cred (tallyAt ((c : Thread nD τ), .dma 6) () NK) ∗ cred (tallyAt ((c : Thread nD τ), .dma 8) () NK)
    ∗ cred (tallyAt ((c : Thread nD τ), .dma 10) () NV) ∗ cred (tallyAt ((c : Thread nD τ), .dma 12) () NV))
/-- The three operand tiles. -/
def ins (KT VT QT : Dev nD → Tile F .f32) (c : Dev nD) : sProp 𝕄 :=
  iprop(pt (Memref.whole main_v1) c (QT c) ∗ pt (Memref.whole main_v2) c (KT c) ∗ pt (Memref.whole main_v3) c (VT c))
/-- What a device knows and may do in the exchange, its cells open. -/
def opened (KT VT : Dev nD → Tile F .f32) (c : Dev nD) : sProp 𝕄 :=
  iprop(∃ K, invs KT VT K c ∗ facts0 c ∗ tokens c ∗ atPos ER ((c : Thread nD τ), .reg 0) 0 ∅ 0 ∗ places c 0)

instance invs_persistent (KT VT : Dev nD → Tile F .f32) (K : GSem nD τ sig → ℕ) (c : Dev nD) : BI.Persistent (invs KT VT K c) := by unfold invs; infer_instance

theorem close (KT VT : Dev nD → Tile F .f32) (κ : ℕ) (g : GSem nD τ sig) :
    iprop(cellInv ER (Rd KT VT) κ g ∗ atPos ER g 1 ∅ 0) ⊢ (|={Set.univ}=> semVal g 0 : sProp 𝕄) :=
  Rounds.cell_close ER (Rd KT VT) (Set.mem_univ κ) id (duties_later KT VT g)

/-- The nine cells closed. -/
theorem close_all (KT VT : Dev nD → Tile F .f32) (K : GSem nD τ sig → ℕ) (c : Dev nD) :
    iprop(invs KT VT K c ∗ atPos ER ((c : Thread nD τ), .reg 0) 1 ∅ 0 ∗ places c 1)
      ⊢ (|={Set.univ}=> (semVal ((c : Thread nD τ), .reg 0) 0 ∗ sems8 c) : sProp 𝕄) := by
  unfold invs places sems8
  iintro ⟨⟨#I0, #I1, #I2, #I3, #I4, #I5, #I6, #I7, #I8, -⟩, P0, P1, P2, P3, P4, P5, P6, P7, P8⟩
  imod (close KT VT (K (cell c 0)) ((c : Thread nD τ), .reg 0)) $$ [P0] with S0
  · isplitr; · iexact I0
    iexact P0
  imod (close KT VT (K (cell c 1)) ((c : Thread nD τ), .dma 5)) $$ [P1] with S1
  · isplitr; · iexact I1
    iexact P1
  imod (close KT VT (K (cell c 2)) ((c : Thread nD τ), .dma 6)) $$ [P2] with S2
  · isplitr; · iexact I2
    iexact P2
  imod (close KT VT (K (cell c 3)) ((c : Thread nD τ), .dma 7)) $$ [P3] with S3
  · isplitr; · iexact I3
    iexact P3
  imod (close KT VT (K (cell c 4)) ((c : Thread nD τ), .dma 8)) $$ [P4] with S4
  · isplitr; · iexact I4
    iexact P4
  imod (close KT VT (K (cell c 5)) ((c : Thread nD τ), .dma 9)) $$ [P5] with S5
  · isplitr; · iexact I5
    iexact P5
  imod (close KT VT (K (cell c 6)) ((c : Thread nD τ), .dma 10)) $$ [P6] with S6
  · isplitr; · iexact I6
    iexact P6
  imod (close KT VT (K (cell c 7)) ((c : Thread nD τ), .dma 11)) $$ [P7] with S7
  · isplitr; · iexact I7
    iexact P7
  imod (close KT VT (K (cell c 8)) ((c : Thread nD τ), .dma 12)) $$ [P8] with S8
  · isplitr; · iexact I8
    iexact P8
  imodintro
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

set_option maxHeartbeats 800000 in
theorem run (KT VT QT : Dev nD → Tile F .f32) (c : Dev nD) (W : Waits sig Unit) (Kt : PUnit → sProp 𝕄) :
    iprop(opened KT VT c ∗ levAts L lv ∗ creds5 c ∗ sems5 c ∗ owes c (O₀ c) W ∗ ins KT VT QT c ∗ (∃ f, pt mOut c f) ∗ scr c
      ∗ ((semVal ((c : Thread nD τ), .reg 0) 0 ∗ sems8 c ∗ sems5 c ∗ ins KT VT QT c ∗ pt mOut c (Z KT VT QT c) ∗ scr c ∗ ∃ W', owes c 0 W') -∗ Kt ⟨⟩))
    ⊢ wp frame (wpE (defs₀ (F := F)) 𝒱₀ (c : Thread nD τ) none) Set.univ
        (cc0__body (F := F) (Memref.whole main_v1) (Memref.isWhole_whole _) (Memref.whole main_v2) (Memref.isWhole_whole _) (Memref.whole main_v3) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Kt := by
  rw [body_eq]
  unfold opened creds5 sems5 ins scr
  iintro ⟨⟨%K, #I, HF, HT, P0, P⟩, #Hlv, ⟨C0, C2, C4, C6, C8⟩, ⟨S0, S1, S2, S3, S4⟩, HO, ⟨HQ, HK, HV⟩, Hout, ⟨Hq, Hk, Hv, Hk8, Hv8, Hko, Hvo, Hot⟩, Hnext⟩
  ihave Hk8 := (rows_ex mK8 (View.set_whole _) c) $$ Hk8
  icases Hk8 with ⟨Hk8l, Hk8h⟩
  ihave Hv8 := (rows_ex mV8 (View.set_whole _) c) $$ Hv8
  icases Hv8 with ⟨Hv8l, Hv8h⟩
  ihave Hko := (rows_ex mKo (View.set_whole _) c) $$ Hko
  icases Hko with ⟨Hkol, Hkoh⟩
  ihave Hvo := (rows_ex mVo (View.set_whole _) c) $$ Hvo
  icases Hvo with ⟨Hvol, Hvoh⟩
  ihave Hot := (rows_ex mOt (View.set_whole _) c) $$ Hot
  icases Hot with ⟨Hotl, Hoth⟩
  ihave Hout := (rows_ex mOut (View.set_whole _) c) $$ Hout
  icases Hout with ⟨Houtl, Houth⟩
  iapply (partA rest KT VT QT K c W Kt)
  isplitr; · iexact I
  isplitr; · iexact Hlv
  isplitl [HF]; · iexact HF
  isplitl [HT]; · iexact HT
  isplitl [P0]; · iexact P0
  isplitl [C0]; · iexact C0
  isplitl [S0]; · iexact S0
  isplitl [S1]; · iexact S1
  isplitl [S2]; · iexact S2
  isplitl [HO]; · iexact HO
  isplitl [HQ]; · iexact HQ
  isplitl [HK]; · iexact HK
  isplitl [HV]; · iexact HV
  isplitl [Hq]; · iexact Hq
  isplitl [Hk]; · iexact Hk
  isplitl [Hv]; · iexact Hv
  isplitl [Hk8l]; · iexact Hk8l
  isplitl [Hk8h]; · iexact Hk8h
  isplitl [Hv8l]; · iexact Hv8l
  isplitl [Hv8h]; · iexact Hv8h
  isplitl [Hkol Hkoh Hvol Hvoh]
  · unfold landRows
    isplitl [Hkol]; · iexact Hkol
    isplitl [Hkoh]; · iexact Hkoh
    isplitl [Hvol]; · iexact Hvol
    iexact Hvoh
  iintro %v8 %v11 %v15 Hmid
  have hw : iprop(invs KT VT K c ∗ (semVal ((c : Thread nD τ), .reg 0) 0 ∗ sems8 c ∗ (semVal ((c : Thread nD τ), .dma 0) 0 ∗ semVal ((c : Thread nD τ), .dma 1) 0 ∗ semVal ((c : Thread nD τ), .dma 2) 0 ∗ semVal ((c : Thread nD τ), .dma 3) 0 ∗ semVal ((c : Thread nD τ), .dma 4) 0)
    ∗ (pt (Memref.whole main_v1) c (QT c) ∗ pt (Memref.whole main_v2) c (KT c) ∗ pt (Memref.whole main_v3) c (VT c)) ∗ pt mOut c (Z KT VT QT c)
    ∗ ((∃ f, pt (Memref.whole cc0_scratch0) c f) ∗ (∃ f, pt (Memref.whole cc0_scratch1) c f) ∗ (∃ f, pt (Memref.whole cc0_scratch2) c f)
    ∗ (∃ f, pt mK8 c f) ∗ (∃ f, pt mV8 c f) ∗ (∃ f, pt mKo c f) ∗ (∃ f, pt mVo c f) ∗ (∃ f, pt mOt c f)) ∗ (∃ W', owes c 0 W') -∗ Kt ⟨⟩)) ⊢ (fin KT VT QT c -∗ |={Set.univ}=> Kt ⟨⟩ : sProp 𝕄) := by
    unfold fin
    iintro ⟨#I, Hnext⟩ ⟨HQ, HK, HV, Houtl, Houth, Hq, Hk, Hv, Hk8l, Hk8h, Hv8l, Hv8h, Hkol, Hkoh, Hvol, Hvoh, Hotl, Hoth, S0, S1, S2, S3, S4, P0, P, HO⟩
    imod (close_all KT VT K c) $$ [P0 P] with ⟨Sb, S8⟩
    · isplitr; · iexact I
      isplitl [P0] <;> iassumption
    imodintro
    iapply Hnext
    isplitl [Sb]; · iexact Sb
    isplitl [S8]; · iexact S8
    isplitl [S0 S1 S2 S3 S4]
    · isplitl [S0]; · iexact S0
      isplitl [S1]; · iexact S1
      isplitl [S2]; · iexact S2
      isplitl [S3] <;> iassumption
    isplitl [HQ HK HV]
    · isplitl [HQ]; · iexact HQ
      isplitl [HK] <;> iassumption
    isplitl [Houtl Houth]
    · iapply (rows mOut (View.set_whole _) c _).2
      isplitl [Houtl] <;> iassumption
    isplitr [HO]
    · isplitl [Hq]; · iexact Hq
      isplitl [Hk]; · iexact Hk
      isplitl [Hv]; · iexact Hv
      isplitl [Hk8l Hk8h]; · iapply (rows_join mK8 (View.set_whole _) c); isplitl [Hk8l] <;> iassumption
      isplitl [Hv8l Hv8h]; · iapply (rows_join mV8 (View.set_whole _) c); isplitl [Hv8l] <;> iassumption
      isplitl [Hkol Hkoh]; · iapply (rows_join mKo (View.set_whole _) c); isplitl [Hkol] <;> iassumption
      isplitl [Hvol Hvoh]; · iapply (rows_join mVo (View.set_whole _) c); isplitl [Hvol] <;> iassumption
      iapply (rows_join mOt (View.set_whole _) c); isplitl [Hotl] <;> iassumption
    iexact HO
  iapply (wp_fupd frame _ Set.univ)
  iapply (partB KT VT QT K c c v8 v11 v15)
  isplitr; · iexact I
  isplitl [P]; · iexact P
  isplitl [Hmid]; · iexact Hmid
  isplitl [C2]; · iexact C2
  isplitl [C4]; · iexact C4
  isplitl [C6]; · iexact C6
  isplitl [C8]; · iexact C8
  isplitl [S3]; · iexact S3
  isplitl [S4]; · iexact S4
  isplitl [Hotl]; · iexact Hotl
  isplitl [Hoth]; · iexact Hoth
  isplitl [Houtl]; · iexact Houtl
  isplitl [Houth]; · iexact Houth
  iapply hw
  isplitr; · iexact I
  iexact Hnext

end Cert.KernelIdeal.Hand

end
-- ==== Proof.Launch.lean ====
/-
  The program around the body: the host transposes before and after the call, the call itself, and
  the launch that deals the exchange's cells. `run_main` is the whole run: it ends, the arguments as
  they were, every counter at zero, the result what `result` says.
-/
module

public import proofs.«01_k».proof.Proof.Run
public import proofs.«01_k».proof.Proof.Gen.KernelIdeal.Frame
public import Idealize.ShloMosaic.Lib.Pipeline.RegionTalk
public import Idealize.ShloMosaic.Lib.Quiescent

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The buffers' contents, stage by stage -/

/-- As launched; after the transposes before the call; after the call; after the last transpose. -/
abbrev U0 (c : Dev nD) : Valuation τ sig (Elt F) := fun b => m (c, b)
abbrev U1 (c : Dev nD) : Valuation τ sig (Elt F) := StableHlo.after hostOps0 (U0 m c)
/-- The three operand tiles of a device. -/
def QT (c : Dev nD) : Tile F .f32 := U1 m c (Proc.devRef .tc main_v1)
def KT (c : Dev nD) : Tile F .f32 := U1 m c (Proc.devRef .tc main_v2)
def VT (c : Dev nD) : Tile F .f32 := U1 m c (Proc.devRef .tc main_v3)
abbrev U2 (c : Dev nD) : Valuation τ sig (Elt F) := Function.update (U1 m c) (Proc.devRef .tc main_v4) (Z (KT m) (VT m) (QT m) c)
abbrev U3 (c : Dev nD) : Valuation τ sig (Elt F) := StableHlo.after hostOps1 (U2 m c)

theorem held_all (c : Dev nD) (W : Valuation τ sig (Elt F)) : (StableHlo.held (c : Thread nD τ) (ucRefs τ sig) W : sProp 𝕄)
    = iprop(pt (Memref.whole main_arg0) c (W (Proc.devRef .tc main_arg0)) ∗ pt (Memref.whole main_arg1) c (W (Proc.devRef .tc main_arg1)) ∗ pt (Memref.whole main_arg2) c (W (Proc.devRef .tc main_arg2))
      ∗ pt (Memref.whole main_v1) c (W (Proc.devRef .tc main_v1)) ∗ pt (Memref.whole main_v2) c (W (Proc.devRef .tc main_v2)) ∗ pt (Memref.whole main_v3) c (W (Proc.devRef .tc main_v3))
      ∗ pt mOut c (W (Proc.devRef .tc main_v4)) ∗ pt (Memref.whole main_v5) c (W (Proc.devRef .tc main_v5))) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3, Proc.devRef .tc main_v4, Proc.devRef .tc main_v5] (by decide) (by decide)]
  rfl

/-- The buffers the body addresses. -/
def hs : Finset (DevRef τ sig) := {Proc.devRef .tc main_v1, Proc.devRef .tc main_v2, Proc.devRef .tc main_v3, Proc.devRef .tc main_v4}
theorem hs_sub : hs ⊆ ucRefs τ sig := by decide
theorem held_hs (c : Dev nD) (W : Valuation τ sig (Elt F)) : (StableHlo.held (c : Thread nD τ) hs W : sProp 𝕄)
    = iprop(pt (Memref.whole main_v1) c (W (Proc.devRef .tc main_v1)) ∗ pt (Memref.whole main_v2) c (W (Proc.devRef .tc main_v2)) ∗ pt (Memref.whole main_v3) c (W (Proc.devRef .tc main_v3))
      ∗ pt mOut c (W (Proc.devRef .tc main_v4))) := by
  unfold StableHlo.held
  rw [bigSep_eq_bigSepL_of_eq [Proc.devRef .tc main_v1, Proc.devRef .tc main_v2, Proc.devRef .tc main_v3, Proc.devRef .tc main_v4] (by decide) (by decide)]
  rfl

theorem U2_v1 (c : Dev nD) : U2 m c (Proc.devRef .tc main_v1) = QT m c := Function.update_of_ne (by decide) ..
theorem U2_v2 (c : Dev nD) : U2 m c (Proc.devRef .tc main_v2) = KT m c := Function.update_of_ne (by decide) ..
theorem U2_v3 (c : Dev nD) : U2 m c (Proc.devRef .tc main_v3) = VT m c := Function.update_of_ne (by decide) ..
theorem U2_v4 (c : Dev nD) : U2 m c (Proc.devRef .tc main_v4) = Z (KT m) (VT m) (QT m) c := Function.update_self ..

/-! ## The counters -/

theorem sems_free (c : Dev nD) : (unscopedSems0 c : sProp 𝕄) = semVal ((c : Thread nD τ), .reg 0) 0 := by
  unfold unscopedSems0
  rw [show (Finset.univ.filter fun sm : SemLoc sig => ¬ sm.isScoped .tc) = {SemLoc.reg 0} from by decide, bigSep_singleton]
theorem free_eq : ∀ sm : SemLoc sig, sm.isScoped .tc = false → sm = .reg 0 := by decide

/-- The call's own counters: all thirteen transfer semaphores. -/
abbrev osem : Fin 13 → SemLoc sig := fun k => .dma k
theorem own_eq (c : Dev nD) : (Pipeline.ownSems0 osem c : sProp 𝕄)
    = iprop(semVal ((c : Thread nD τ), .dma 0) 0 ∗ semVal ((c : Thread nD τ), .dma 1) 0 ∗ semVal ((c : Thread nD τ), .dma 2) 0 ∗ semVal ((c : Thread nD τ), .dma 3) 0 ∗ semVal ((c : Thread nD τ), .dma 4) 0
      ∗ sems8 c) :=
  (bigSep_univ_eq_bigSepL [(0 : Fin 13), 1, 2, 3, 4, 5, 6, 7, 8, 9, 10, 11, 12] (by decide) (by decide)
    (fun k : Fin 13 => (semVal ((c.tc : Thread nD τ), osem k) 0 : sProp 𝕄))).trans rfl

/-! ## The call's invariant -/

/-- The rights to open the eight transfer cells. -/
def opens (c : Dev nD) : sProp 𝕄 :=
  iprop(openTok ER ((c : Thread nD τ), .dma 5) ∗ openTok ER ((c : Thread nD τ), .dma 6) ∗ openTok ER ((c : Thread nD τ), .dma 7) ∗ openTok ER ((c : Thread nD τ), .dma 8)
    ∗ openTok ER ((c : Thread nD τ), .dma 9) ∗ openTok ER ((c : Thread nD τ), .dma 10) ∗ openTok ER ((c : Thread nD τ), .dma 11) ∗ openTok ER ((c : Thread nD τ), .dma 12))
/-- What a device carries from the launch to the call. -/
def dealt (c : Dev nD) : sProp 𝕄 :=
  iprop(∃ K, invs (KT m) (VT m) K c ∗ reached ER ((peer c : Thread nD τ), .reg 0) 0 ∗ tokens c ∗ atPos ER ((c : Thread nD τ), .reg 0) 0 ∅ 0 ∗ opens c)
def Tk (c : Dev nD) : sProp 𝕄 := iprop(dealt m c ∗ creds5 c)
def Xk (c : Dev nD) : sProp 𝕄 := iprop(opened (KT m) (VT m) c ∗ creds5 c ∗ sems5 c ∗ levAts L lv)
def Yk (c : Dev nD) : sProp 𝕄 := semVal ((c : Thread nD τ), .reg 0) 0

def before (c : Dev nD) : sProp 𝕄 := iprop(Xk m c ∗ ins (KT m) (VT m) (QT m) c ∗ (∃ f, pt mOut c f) ∗ scr c ∗ ∃ r, prngReg c r)
def later (c : Dev nD) : sProp 𝕄 :=
  iprop(semVal ((c : Thread nD τ), .reg 0) 0 ∗ sems8 c ∗ sems5 c ∗ ins (KT m) (VT m) (QT m) c ∗ pt mOut c (Z (KT m) (VT m) (QT m) c) ∗ scr c ∗ ∃ r, prngReg c r)

/-- The call's proof data: no window; a device owes its dues before the one point, nothing after. -/
def dat (c : Dev nD) : Dat τ (Elt F) Unit ℕ UU ℕ cfg0 c where
  A w := w.elim0
  after w := w.elim0
  Φ t := if t.val = 0 then before m c else later m c
  q w := w.elim0
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem none_sep {M : Type} [URA M] (Φ : Fin 0 → sProp M) : bigSep Finset.univ Φ = (BI.emp : sProp M) :=
  bigSep_univ_eq_bigSepL [] (by decide) (by decide) Φ

theorem rest_eq (c : Dev nD) : (Pipeline.scopedRest (Ix := Unit) (Name := ℕ) (U := UU) (Lvl := ℕ) (Val := Elt F) (Pipeline.pin (pcfgs (F := F)) adm 0).spec c : sProp 𝕄) = scr c :=
  (scopedRest0_eq c).trans rfl

theorem owed_first (c : Dev nD) : (dat m c).owed t0_0.castSucc = O₀ c := by
  show (if (t0_0.castSucc : Fin (cfg0.N + 1)).val = 0 then O₀ c else 0) = O₀ c
  exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem Φ_first (c : Dev nD) : (dat m c).Φ t0_0.castSucc = before m c := by
  show (if (t0_0.castSucc : Fin (cfg0.N + 1)).val = 0 then before m c else later m c) = before m c
  exact if_pos rfl
theorem Φ_last (c : Dev nD) : (dat m c).Φ (Fin.last _) = later m c := by
  show (if (Fin.last cfg0.N).val = 0 then before m c else later m c) = later m c
  rw [Fin.val_last, if_neg (by rw [show cfg0.N = 1 from N_0]; decide)]

/-- Owing under any record of waits is owing at a point, where no bound is set. -/
theorem owes_in (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h]
  iintro HO
  iexists W
  isplitr
  · ipureintro; exact fun _ _ => Or.inl trivial
  iexact HO
theorem owes_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

theorem body (c : Dev nD) : BodyObligation (dat m c) (defs₀ (F := F)) 𝒱₀ () Set.univ := fun t => by
  obtain rfl := fin_N0 t
  rw [none_sep, none_sep, Φ_first, show (dat m c).Φ t0_0.succ = later m c from Φ_last m c]
  unfold before later Xk
  iintro ⟨⟨⟨Ho, Hc, Hs5, #Hlv⟩, Hi, Hout, Hscr, Hp⟩, HO, -⟩
  ihave HO' := (owes_out m c _ (O₀ c) (owed_first m c)) $$ HO
  icases HO' with ⟨%W, HO⟩
  iapply (run (KT m) (VT m) (QT m) c W _)
  isplitl [Ho]; · iexact Ho
  isplitr; · iexact Hlv
  isplitl [Hc]; · iexact Hc
  isplitl [Hs5]; · iexact Hs5
  isplitl [HO]; · iexact HO
  isplitl [Hi]; · iexact Hi
  isplitl [Hout]; · iexact Hout
  isplitl [Hscr]; · iexact Hscr
  iintro ⟨Hb, Hs8, Hs5, Hi, Hout, Hscr, ⟨%W', HO⟩⟩
  isplitr [HO]
  · isplitl [Hb]; · iexact Hb
    isplitl [Hs8]; · iexact Hs8
    isplitl [Hs5]; · iexact Hs5
    isplitl [Hi]; · iexact Hi
    isplitl [Hout]; · iexact Hout
    isplitl [Hscr]; · iexact Hscr
    iexact Hp
  isplitl [HO]
  · iapply (owes_in m c t0_0.succ 0 (owed_last m c) W'); iexact HO
  iempintro

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem open_cell (κ : ℕ) (g : GSem nD τ sig) :
    iprop(cellInv ER (Rd (KT m) (VT m)) κ g ∗ openTok ER g ∗ semVal g 0) ⊢ (|={Set.univ}=> (atPos ER g 0 ∅ 0 ∗ reached ER g 0) : sProp 𝕄) :=
  Rounds.cell_open ER (Rd (KT m) (VT m)) (Set.mem_univ κ)

theorem hopen (c : Dev nD) : iprop(Tk m c ∗ Pipeline.ownSems0 osem c ∗ levAts L lv) ⊢ (|={Set.univ}=> Xk m c : sProp 𝕄) := by
  rw [own_eq]
  unfold Tk Xk dealt opened opens sems8 invs
  iintro ⟨⟨⟨%K, ⟨#I0, #I1, #I2, #I3, #I4, #I5, #I6, #I7, #I8, #J0, #J2, #J4, #J6, #J8⟩, #R0, HT, P0, O1, O2, O3, O4, O5, O6, O7, O8⟩, Hc⟩, ⟨Z0, Z1, Z2, Z3, Z4, S1, S2, S3, S4, S5, S6, S7, S8⟩, #Hlv⟩
  imod (open_cell m (K (cell c 1)) ((c : Thread nD τ), .dma 5)) $$ [O1 S1] with ⟨P1, #R1⟩
  · isplitr; · iexact I1
    isplitl [O1] <;> iassumption
  imod (open_cell m (K (cell c 2)) ((c : Thread nD τ), .dma 6)) $$ [O2 S2] with ⟨P2, #R2⟩
  · isplitr; · iexact I2
    isplitl [O2] <;> iassumption
  imod (open_cell m (K (cell c 3)) ((c : Thread nD τ), .dma 7)) $$ [O3 S3] with ⟨P3, #R3⟩
  · isplitr; · iexact I3
    isplitl [O3] <;> iassumption
  imod (open_cell m (K (cell c 4)) ((c : Thread nD τ), .dma 8)) $$ [O4 S4] with ⟨P4, #R4⟩
  · isplitr; · iexact I4
    isplitl [O4] <;> iassumption
  imod (open_cell m (K (cell c 5)) ((c : Thread nD τ), .dma 9)) $$ [O5 S5] with ⟨P5, #R5⟩
  · isplitr; · iexact I5
    isplitl [O5] <;> iassumption
  imod (open_cell m (K (cell c 6)) ((c : Thread nD τ), .dma 10)) $$ [O6 S6] with ⟨P6, #R6⟩
  · isplitr; · iexact I6
    isplitl [O6] <;> iassumption
  imod (open_cell m (K (cell c 7)) ((c : Thread nD τ), .dma 11)) $$ [O7 S7] with ⟨P7, #R7⟩
  · isplitr; · iexact I7
    isplitl [O7] <;> iassumption
  imod (open_cell m (K (cell c 8)) ((c : Thread nD τ), .dma 12)) $$ [O8 S8] with ⟨P8, #R8⟩
  · isplitr; · iexact I8
    isplitl [O8] <;> iassumption
  imodintro
  isplitr [Hc Z0 Z1 Z2 Z3 Z4]
  · iexists K
    isplitr
    · isplitr; · iexact I0
      isplitr; · iexact I1
      isplitr; · iexact I2
      isplitr; · iexact I3
      isplitr; · iexact I4
      isplitr; · iexact I5
      isplitr; · iexact I6
      isplitr; · iexact I7
      isplitr; · iexact I8
      isplitr; · iexact J0
      isplitr; · iexact J2
      isplitr; · iexact J4
      isplitr; · iexact J6
      iexact J8
    isplitr
    · unfold facts0
      isplitr; · iexact R0
      isplitr; · iexact R1
      isplitr; · iexact R2
      isplitr; · iexact R3
      isplitr; · iexact R4
      isplitr; · iexact R5
      isplitr; · iexact R6
      isplitr; · iexact R7
      iexact R8
    isplitl [HT]; · iexact HT
    isplitl [P0]; · iexact P0
    unfold places
    isplitl [P1]; · iexact P1
    isplitl [P2]; · iexact P2
    isplitl [P3]; · iexact P3
    isplitl [P4]; · iexact P4
    isplitl [P5]; · iexact P5
    isplitl [P6]; · iexact P6
    isplitl [P7]; · iexact P7
    iexact P8
  isplitl [Hc]; · iexact Hc
  isplitl [Z0 Z1 Z2 Z3 Z4]
  · unfold sems5
    isplitl [Z0]; · iexact Z0
    isplitl [Z1]; · iexact Z1
    isplitl [Z2]; · iexact Z2
    isplitl [Z3] <;> iassumption
  iexact Hlv

theorem hin (c : Dev nD) : iprop(Pipeline.scopedRest (Pipeline.pin (pcfgs (F := F)) adm 0).spec c ∗ (∃ r, prngReg c r) ∗ StableHlo.held (c.tc : Thread nD τ) hs (U1 m c) ∗ Xk m c)
    ⊢ (pdats m 0 c).Φ 0 := by
  rw [show (pdats m 0 c).Φ 0 = before m c from Φ_first m c, rest_eq, held_hs]
  unfold before ins
  iintro ⟨Hscr, Hp, ⟨HQ, HK, HV, Hout⟩, HX⟩
  isplitl [HX]; · iexact HX
  isplitl [HQ HK HV]
  · isplitl [HQ]; · iexact HQ
    isplitl [HK]; · iexact HK
    iexact HV
  isplitl [Hout]; · iexists _; iexact Hout
  isplitl [Hscr]; · iexact Hscr
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) hs (U2 m c) ∗ Pipeline.ownSems0 osem c ∗ Yk c) := by
  rw [show (pdats m 0 c).Φ (Fin.last _) = later m c from Φ_last m c, rest_eq, held_hs, own_eq, U2_v1, U2_v2, U2_v3, U2_v4]
  unfold later ins Yk sems5
  iintro ⟨Hb, Hs8, ⟨Z0, Z1, Z2, Z3, Z4⟩, ⟨HQ, HK, HV⟩, Hout, Hscr, Hp⟩
  isplitl [Hscr]; · iexact Hscr
  isplitl [Hp]; · iexact Hp
  isplitl [HQ HK HV Hout]
  · isplitl [HQ]; · iexact HQ
    isplitl [HK]; · iexact HK
    isplitl [HV] <;> iassumption
  isplitr [Hb]
  · isplitl [Z0]; · iexact Z0
    isplitl [Z1]; · iexact Z1
    isplitl [Z2]; · iexact Z2
    isplitl [Z3]; · iexact Z3
    isplitl [Z4] <;> iassumption
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- Everything owed at launch lies above level 0. -/
theorem owed_above {c : Dev nD} {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · obtain ⟨h1, h2⟩ := onRecv_K0 c g u h
    exact ⟨h1, by show 0 < lvS g.2; rw [h2]; decide⟩
  · rw [tallyAt_apply] at h
    split at h
    · next hg => rw [hg.1]; exact ⟨by rw [L_tc]; exact Finset.mem_singleton_self _, by show 0 < lvS (chS 0); decide⟩
    · exact absurd h (Nat.lt_irrefl 0)

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  rw [show (pdats m 0 c).owed t = if t.val = 0 then O₀ c else 0 from rfl] at h
  split at h
  · exact owed_above h
  · exact absurd h (Nat.lt_irrefl 0)

theorem kept (c : Dev nD) : ∀ b ∈ ucRefs τ sig \ hs, U2 m c b = U1 m c b := fun b hb =>
  Function.update_of_ne (fun h => (Finset.mem_sdiff.mp hb).2 (by rw [h]; decide)) ..

set_option backward.isDefEq.respectTransparency.types false in
/-- The call. -/
def seg1 : ℝ𝕊 0 :=
  Pipeline.RegionSeg.ofTalk (pcfgs (F := F)) adm (pdats m) () defs₀ 𝒱₀ L lv 0 osem (by decide : Pipeline.OwnSemFacts cfg0.spec osem)
    hs (ucRefs τ sig) hs_sub kit rfl (fun c => (body m c).loose)
    (fun _ => 0) O₀ (fun c => (owed_first m c).trans (zero_add _).symm) (owed_last m) (fun _ => rfl) (fun _ w => w.elim0)
    (U1 m) (U2 m) (kept m)
    (Tk m) Yk (Xk m) Yk (hopen m) (hin m) (hout m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

theorem ops0_sub : ∀ op ∈ (hostOps0 : List (HloOp τ sig (Elt F))), op.bufs ⊆ ucRefs τ sig := fun op h =>
  Pipeline.sub_ucRefs op (List.forall_iff_forall_mem.mp hostOps0_sub op h)
theorem ops1_sub : ∀ op ∈ (hostOps1 : List (HloOp τ sig (Elt F))), op.bufs ⊆ ucRefs τ sig := fun op h =>
  Pipeline.sub_ucRefs op (List.forall_iff_forall_mem.mp hostOps1_sub op h)

/-- What rides beside the buffers before the call, and after it. -/
def R (c : Dev nD) : sProp 𝕄 := iprop(Tk m c ∗ (∃ r, prngReg c r) ∗ ∃ W, owes (c : Thread nD τ) (O₀ c) W)
def R' (c : Dev nD) : sProp 𝕄 := iprop(Yk c ∗ ∃ W, owes (c : Thread nD τ) (0 : CellTallies nD τ sig Unit) W)

def seg0 : ℍ := Pipeline.HostSeg.ofOps _ _ _ _ _ (ucRefs τ sig) hostOps0 ops0_sub (List.forall_iff_forall_mem.mp hostOps0_fresh) (U0 m) (R m)
def seg2 : ℍ := Pipeline.HostSeg.ofOps _ _ _ _ _ (ucRefs τ sig) hostOps1 ops1_sub (List.forall_iff_forall_mem.mp hostOps1_fresh) (U2 m) R'

theorem no_arr (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact bigSep_empty

theorem enter (c : Dev nD) : iprop(StableHlo.held (c : Thread nD τ) (ucRefs τ sig) (U1 m c) ∗ R m c) ⊢ (seg1 m).pre c := by
  show _ ⊢ iprop(StableHlo.held (c.tc : Thread nD τ) (Pipeline.arrRefs (τ := τ) (pcfgs (F := F) 0).spec) (U1 m c) ∗ (∃ r, prngReg c r)
    ∗ (StableHlo.held (c.tc : Thread nD τ) (ucRefs τ sig) (U1 m c) ∗ emp) ∗ Tk m c ∗ ∃ Wd, owes (c : Thread nD τ) (0 + O₀ c) Wd)
  rw [no_arr, zero_add]
  unfold R
  iintro ⟨Hh, HT, Hp, HO⟩
  isplitr; · iempintro
  isplitl [Hp]; · iexact Hp
  isplitl [Hh]
  · isplitl [Hh]; · iexact Hh
    iempintro
  isplitl [HT]; · iexact HT
  iexact HO

theorem leave (c : Dev nD) : (seg1 m).post c ⊢ iprop(StableHlo.held (c : Thread nD τ) (ucRefs τ sig) (U2 m c) ∗ R' c) := by
  show iprop(StableHlo.held (c.tc : Thread nD τ) (Pipeline.arrRefs (τ := τ) (pcfgs (F := F) 0).spec) (U2 m c) ∗ (∃ r, prngReg c r)
    ∗ (StableHlo.held (c.tc : Thread nD τ) (ucRefs τ sig) (U2 m c) ∗ emp) ∗ Yk c ∗ ∃ Wd, owes (c : Thread nD τ) (0 : CellTallies nD τ sig Unit) Wd) ⊢ _
  rw [no_arr]
  unfold R'
  iintro ⟨-, -, ⟨Hh, -⟩, Hb, HO⟩
  isplitl [Hh]; · iexact Hh
  isplitl [Hb]; · iexact Hb
  iexact HO

def segs : List (Pipeline.Seg (pcfgs (F := F)) adm (pdats m) () defs₀ 𝒱₀ L lv) := [.host (seg0 m), .region (seg1 m), .host (seg2 m)]
theorem main_eq (c : Dev nD) : main (F := F) c = Pipeline.Seg.run (segs m) :=
  main_segs adm (pdats m) () 𝒱₀ L lv (seg0 m) (seg2 m) (seg1 m) rfl rfl c

/-! ## The launch -/

/-- The barrier cells, funded with their counters; the eight transfer cells of each device, funded
    without; every duty's token. -/
def barEmb : Dev nD ↪ GSem nD τ sig := ⟨fun c => cell c 0, fun _ _ h => congrArg (fun g : GSem nD τ sig => g.1.1) h⟩
def trEmb : Dev nD × Fin 8 ↪ GSem nD τ sig := ⟨fun x => cell x.1 x.2.succ, fun _ _ h =>
  Prod.ext (congrArg (fun g : GSem nD τ sig => g.1.1) h) (Fin.succ_injective 8 (chS_inj (congrArg Prod.snd h)))⟩
abbrev barCells : Finset (GSem nD τ sig) := Finset.univ.map barEmb
abbrev trCells : Finset (GSem nD τ sig) := Finset.univ.map trEmb
def toks : Finset (GSem nD τ sig × ℕ × Unit) := Finset.univ.map ⟨fun x : Dev nD × Fin 9 => (cell x.1 x.2, 0, ()), fun _ _ h =>
  Prod.ext (congrArg (fun t : GSem nD τ sig × ℕ × Unit => t.1.1.1) h) (chS_inj (congrArg (fun t : GSem nD τ sig × ℕ × Unit => t.1.2) h))⟩

theorem apart : Disjoint (barCells : Finset (GSem nD τ sig)) trCells := by
  rw [Finset.disjoint_left]
  intro g h1 h2
  obtain ⟨c, -, rfl⟩ := Finset.mem_map.mp h1
  obtain ⟨x, -, h⟩ := Finset.mem_map.mp h2
  exact Fin.succ_ne_zero x.2 (chS_inj (congrArg Prod.snd h))

theorem cell_mem (c : Dev nD) (i : Fin 9) : cell c i ∈ (barCells ∪ trCells : Finset (GSem nD τ sig)) := by
  rcases Fin.eq_zero_or_eq_succ i with rfl | ⟨k, rfl⟩
  · exact Finset.mem_union_left _ (Finset.mem_map_of_mem barEmb (Finset.mem_univ c))
  · exact Finset.mem_union_right _ (Finset.mem_map_of_mem trEmb (Finset.mem_univ (c, k)))

def u₀ : UU :=
  (initOf (Pipeline.cells (Pipeline.pin (pcfgs (F := F)) adm) cellOf_inj) (Pipeline.launchToks (Pipeline.pin (pcfgs (F := F)) adm) cellOf_inj),
    (launchOf barCells trCells toks, 1))

/-- The launch element splits: the pipeline's, the exchange's. -/
theorem own_split (a b : UR sig nD τ) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The exchange's element, all of it on device 0 until it is dealt. -/
def G (c : Dev nD) : sProp 𝕄 := if c = 0 then BI.own (ER (launchOf barCells trCells toks)) else iprop(emp)
theorem G_all : (bigSep Finset.univ G : sProp 𝕄) = BI.own (ER (launchOf barCells trCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, bigSep_emp_const]
  unfold G
  rw [if_pos rfl]
  exact BI.equiv_iff.mp sep_emp

/-- What every device may consult. -/
def records (K : GSem nD τ sig → ℕ) : sProp 𝕄 :=
  iprop((bigSep (barCells ∪ trCells) fun g => cellInv ER (Rd (KT m) (VT m)) (K g) g) ∗ bigSep barCells fun g => reached ER g 0)
instance records_persistent (K : GSem nD τ sig → ℕ) : BI.Persistent (records m K) := by unfold records; infer_instance

theorem inv_at (K : GSem nD τ sig → ℕ) (c : Dev nD) (i : Fin 9) (s : SemLoc sig) (h : chS i = s) :
    (bigSep (barCells ∪ trCells) fun g => (cellInv ER (Rd (KT m) (VT m)) (K g) g : sProp 𝕄)) ⊢ cellInv ER (Rd (KT m) (VT m)) (K (cell c i)) ((c : Thread nD τ), s) := by
  subst h
  exact bigSep_elim (cell_mem c i)
theorem reached_at (c : Dev nD) : (bigSep barCells fun g => (reached ER g 0 : sProp 𝕄)) ⊢ reached ER ((c : Thread nD τ), .reg 0) 0 :=
  bigSep_elim (Finset.mem_map_of_mem barEmb (Finset.mem_univ c))

theorem invs_at (K : GSem nD τ sig → ℕ) (c : Dev nD) :
    (bigSep (barCells ∪ trCells) fun g => (cellInv ER (Rd (KT m) (VT m)) (K g) g : sProp 𝕄)) ⊢ invs (KT m) (VT m) K c := by
  unfold invs
  iintro #H
  isplitr; · iapply (inv_at m K c 0 _ rfl); iexact H
  isplitr; · iapply (inv_at m K c 1 _ rfl); iexact H
  isplitr; · iapply (inv_at m K c 2 _ rfl); iexact H
  isplitr; · iapply (inv_at m K c 3 _ rfl); iexact H
  isplitr; · iapply (inv_at m K c 4 _ rfl); iexact H
  isplitr; · iapply (inv_at m K c 5 _ rfl); iexact H
  isplitr; · iapply (inv_at m K c 6 _ rfl); iexact H
  isplitr; · iapply (inv_at m K c 7 _ rfl); iexact H
  isplitr; · iapply (inv_at m K c 8 _ rfl); iexact H
  isplitr; · iapply (inv_at m K (peer c) 0 _ rfl); iexact H
  isplitr; · iapply (inv_at m K (peer c) 2 _ rfl); iexact H
  isplitr; · iapply (inv_at m K (peer c) 4 _ rfl); iexact H
  isplitr; · iapply (inv_at m K (peer c) 6 _ rfl); iexact H
  iapply (inv_at m K (peer c) 8 _ rfl); iexact H

/-- Who pays the duty of cell `i` on device `c`: the partner at the barrier and the receive cells,
    the device itself at its send cells. Each pairing is its own inverse. -/
def who (i : Fin 9) (c : Dev nD) : Dev nD := if i.val % 2 = 0 then peer c else c
theorem who_who (i : Fin 9) (c : Dev nD) : who i (who i c) = c := by
  unfold who; split
  · exact peer_peer c
  · rfl
def deal : Dev nD × Fin 9 ≃ Dev nD × Fin 9 :=
  ⟨fun x => (who x.2 x.1, x.2), fun x => (who x.2 x.1, x.2), fun x => by simp only [who_who], fun x => by simp only [who_who]⟩

theorem tokens_eq (c : Dev nD) : (bigSep Finset.univ fun i : Fin 9 => (dutyTok ER (cell (who i c) i) 0 () : sProp 𝕄)) ⊢ tokens c := by
  rw [bigSep_univ_eq_bigSepL [(0 : Fin 9), 1, 2, 3, 4, 5, 6, 7, 8] (by decide) (by decide)]
  refine (show _ ⊢ iprop(dutyTok ER ((peer c : Thread nD τ), .reg 0) 0 () ∗ dutyTok ER ((c : Thread nD τ), .dma 5) 0 () ∗ dutyTok ER ((peer c : Thread nD τ), .dma 6) 0 ()
    ∗ dutyTok ER ((c : Thread nD τ), .dma 7) 0 () ∗ dutyTok ER ((peer c : Thread nD τ), .dma 8) 0 () ∗ dutyTok ER ((c : Thread nD τ), .dma 9) 0 ()
    ∗ dutyTok ER ((peer c : Thread nD τ), .dma 10) 0 () ∗ dutyTok ER ((c : Thread nD τ), .dma 11) 0 () ∗ dutyTok ER ((peer c : Thread nD τ), .dma 12) 0 ()) from BI.Entails.refl _).trans ?_
  unfold tokens
  iintro ⟨T0, T1, T2, T3, T4, T5, T6, T7, T8⟩
  isplitl [T0]; · iexact T0
  isplitl [T1]; · iexact T1
  isplitl [T3]; · iexact T3
  isplitl [T5]; · iexact T5
  isplitl [T7]; · iexact T7
  isplitl [T2]; · iexact T2
  isplitl [T4]; · iexact T4
  isplitl [T6]; · iexact T6
  iexact T8

/-- Every duty's token, dealt to whoever pays it. -/
theorem toks_deal : (bigSep toks fun x => (dutyTok ER x.1 x.2.1 x.2.2 : sProp 𝕄)) ⊢ bigSep Finset.univ fun c : Dev nD => (tokens c : sProp 𝕄) := by
  unfold toks
  rw [bigSep_map, bigSep_univ_equiv deal, bigSep_univ_prod]
  exact bigSep_mono fun c _ => tokens_eq c

theorem opens_deal : (bigSep trCells fun g => (openTok ER g : sProp 𝕄)) ⊢ bigSep Finset.univ fun c : Dev nD => (opens c : sProp 𝕄) := by
  rw [bigSep_map, bigSep_univ_prod]
  refine bigSep_mono fun c _ => ?_
  rw [bigSep_univ_eq_bigSepL [(0 : Fin 8), 1, 2, 3, 4, 5, 6, 7] (by decide) (by decide)]
  exact BI.Entails.refl _

/-- What stays with device `c`. -/
def linear (c : Dev nD) : sProp 𝕄 := iprop(atPos ER ((c : Thread nD τ), .reg 0) 0 ∅ 0 ∗ opens c ∗ tokens c)

theorem dealt_intro (K : GSem nD τ sig → ℕ) (c : Dev nD) : iprop(records m K ∗ linear c) ⊢ dealt m c := by
  unfold records linear dealt
  iintro ⟨⟨#HI, #HR⟩, HP, HO, HT⟩
  iexists K
  isplitr; · iapply (invs_at m K c); iexact HI
  isplitr; · iapply (reached_at (F := F) (peer c)); iexact HR
  isplitl [HT]; · iexact HT
  isplitl [HP] <;> iassumption

/-! ### What the partner owes is what a device may wait for -/

theorem cell_eq_iff (c d : Dev nD) (i j : Fin 9) : cell c i = cell d j ↔ c = d ∧ i = j :=
  ⟨fun h => ⟨congrArg (fun g : GSem nD τ sig => g.1.1) h, chS_inj (congrArg Prod.snd h)⟩, fun ⟨h1, h2⟩ => by rw [h1, h2]⟩

theorem owed_at (d c : Dev nD) (i : Fin 9) (h : i.val % 2 = 0) : O₀ d (cell c i) () = if d = peer c then am i else 0 := by
  unfold O₀ owedK0 owedK1 owedV0 owedV1
  simp only [Pi.add_apply, Finsupp.add_apply, tallyAt_apply, cell_eq_iff, and_true]
  have hc : c = peer d ↔ d = peer c := ⟨fun e => by rw [e, peer_peer], fun e => by rw [e, peer_peer]⟩
  simp only [hc]
  by_cases e : d = peer c
  · simp only [e, true_and, if_true]
    fin_cases i <;> first | rfl | exact absurd h (by decide)
  · simp only [e, false_and, if_false]

theorem launch_at (c : Dev nD) (i : Fin 9) (h : i.val % 2 = 0) :
    tallyOn (cell c i) (launchCredit (Pipeline.owing O₀) 0 (cell c i)) = (tallyAt (cell c i) () (am i) : CellTallies nD τ sig Unit) := by
  unfold tallyAt
  refine congrArg _ (Finsupp.ext fun u => ?_)
  cases u
  rw [Pipeline.launchCredit_owing, Finsupp.single_eq_same, Finset.sum_congr rfl fun d _ => owed_at d c i h, Finset.sum_ite_eq' Finset.univ (peer c) fun _ => am i,
    if_pos (Finset.mem_univ _)]

theorem creds (c : Dev nD) : (Pipeline.launchCred O₀ c : sProp 𝕄) ⊢ creds5 c := by
  unfold Pipeline.launchCred
  refine (bigSep_subset (Finset.subset_univ ([chS 0, chS 2, chS 4, chS 6, chS 8].toFinset))).trans ?_
  rw [bigSep_eq_bigSepL [chS 0, chS 2, chS 4, chS 6, chS 8] (by decide)]
  show iprop(cred (tallyOn (cell c 0) (launchCredit (Pipeline.owing O₀) 0 (cell c 0))) ∗ cred (tallyOn (cell c 2) (launchCredit (Pipeline.owing O₀) 0 (cell c 2)))
    ∗ cred (tallyOn (cell c 4) (launchCredit (Pipeline.owing O₀) 0 (cell c 4))) ∗ cred (tallyOn (cell c 6) (launchCredit (Pipeline.owing O₀) 0 (cell c 6)))
    ∗ cred (tallyOn (cell c 8) (launchCredit (Pipeline.owing O₀) 0 (cell c 8)))) ⊢ _
  rw [launch_at c 0 rfl, launch_at c 2 rfl, launch_at c 4 rfl, launch_at c 6 rfl, launch_at c 8 rfl]
  exact BI.Entails.refl _

/-! ### The first thread state -/

abbrev T₀ (c : Dev nD) : sProp 𝕄 := iprop(StableHlo.held (c : Thread nD τ) (ucRefs τ sig) (U0 m c) ∗ R m c)
abbrev Tₙ (c : Dev nD) : sProp 𝕄 := iprop(StableHlo.held (c : Thread nD τ) (ucRefs τ sig) (U3 m c) ∗ Yk c)

/-- What of a device's launch holdings is not the exchange's. -/
def bundle (c : Dev nD) : sProp 𝕄 :=
  iprop(StableHlo.held (c : Thread nD τ) (ucRefs τ sig) (U0 m c) ∗ creds5 c ∗ owes (c : Thread nD τ) (O₀ c) ∅ ∗ ∃ r, prngReg c r)

theorem T₀_intro (K : GSem nD τ sig → ℕ) (c : Dev nD) : iprop(records m K ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iapply (dealt_intro m K c)
      isplitr; · iexact HR
      iexact Hl
    iexact Hc
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c 0) 0 ∗ G c)) : sProp 𝕄) := by
    rw [show unscopedBufs c (fun b => m ((c : Thread nD τ).loc b)) = StableHlo.held (c : Thread nD τ) (ucRefs τ sig) (U0 m c) from Pipeline.unscopedBufs_held c (U0 m c),
      sems_free]
    unfold bundle
    iintro ⟨Hh, Hs, HO, Hc, Hp, HG⟩
    isplitr [Hs HG]
    · isplitl [Hh]; · iexact Hh
      isplitl [Hc]; · iapply (creds (F := F) c); iexact Hc
      isplitl [HO]; · iexact HO
      iexists (ρ c); iexact Hp
    isplitl [Hs]; · iexact Hs
    iexact HG
  have hv : bigSep Finset.univ (fun c : Dev nD => (semVal (cell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER ((c : Thread nD τ), .reg 0) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c 0) 0 ∗ G c)) : sProp 𝕄) from bigSep_mono fun c _ => hcore c) $$ H
  ihave H2 := (Entails.of_eq (bigSep_sep' _ _ _)) $$ H'
  icases H2 with ⟨HB, H3⟩
  ihave H4 := (Entails.of_eq (bigSep_sep' _ _ _)) $$ H3
  icases H4 with ⟨Hv, HG⟩
  ihave Hu := (Entails.of_eq (G_all (F := F))) $$ HG
  imod (Rounds.fund_launch ER (Rd (KT m) (VT m)) apart (fun g _ h => h) toks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ bundle m c)) fun c _ => T₀_intro m K c)
  isplitr
  · unfold records
    isplitr; · iexact Hinv
    iexact Hr
  iapply (Entails.of_eq (bigSep_sep' _ _ _).symm)
  isplitr [HB]
  · unfold linear
    iapply (Entails.of_eq (bigSep_sep' _ _ _).symm)
    isplitl [Hat]; · iapply hat $$ Hat
    iapply (Entails.of_eq (bigSep_sep' _ _ _).symm)
    isplitl [Hopen]; · iapply (opens_deal (F := F)) $$ Hopen
    iapply (toks_deal (F := F)) $$ Htok
  · iexact HB

/-! ## The run -/

/-- A device's share of the result: its output tile, axes put back. -/
def result (c : Dev nD) : (⟨S2x512x8x64, .f32⟩ : BufTy).Contents (Elt F) :=
  transpose S2x512x8x64 [0, 3, 1, 2] (Z (KT m) (VT m) (QT m) c) transposes_S2x8x64x512_S2x512x8x64_0_3_1_2

theorem U3_v5 (c : Dev nD) : U3 m c (Proc.devRef .tc main_v5) = result m c := by
  show StableHlo.after hostOps1 (U2 m c) (Proc.devRef .tc main_v5) = _
  rw [StableHlo.after_cons, StableHlo.after_nil, StableHlo.unary_result, U2_v4]
  rfl
/-- A buffer neither the call nor a transpose writes ends as launched. -/
theorem U3_arg (c : Dev nD) (b : Ref sig .tc) (h1 : b ≠ main_v1) (h2 : b ≠ main_v2) (h3 : b ≠ main_v3) (h4 : b ≠ main_v4) (h5 : b ≠ main_v5) :
    U3 m c (Proc.devRef .tc b) = m ((c : Thread nD τ).loc b) := by
  show StableHlo.after hostOps1 (U2 m c) (Proc.devRef .tc b) = _
  rw [StableHlo.after_cons, StableHlo.after_nil, StableHlo.unary_result_ne _ _ _ _ _ _ (h5)]
  refine (Function.update_of_ne (StableHlo.devRef_ne_of_ne h4) ..).trans ?_
  show StableHlo.after hostOps0 (U0 m c) (Proc.devRef .tc b) = _
  rw [StableHlo.after_cons, StableHlo.after_cons, StableHlo.after_cons, StableHlo.after_nil, StableHlo.unary_result_ne _ _ _ _ _ _ (h3),
    StableHlo.unary_result_ne _ _ _ _ _ _ (h2), StableHlo.unary_result_ne _ _ _ _ _ _ (h1)]

set_option backward.isDefEq.respectTransparency.types false in
/-- From any memory with every counter at zero the program ends on all eight devices; then the
    arguments are as they were, the result is `result`, and every counter is at zero. -/
theorem run_main [∀ e, Nonempty (Elt F e)] : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_v5) = result m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      rw [G_all]
      iintro Hu
      ihave H := (own_split _ _) $$ Hu
      icases H with ⟨HP, HX⟩
      imodintro
      isplitl [HP]; · iexact HP
      iexact HX)
    (T₀ := T₀ m) (Tₙ := Tₙ m)
    (hch := by
      refine ⟨fun c => .rfl, fun c => enter m c, fun c => leave m c, fun c => ?_⟩
      show iprop(StableHlo.held (c : Thread nD τ) (ucRefs τ sig) (U3 m c) ∗ R' c)
        ⊢ iprop(Tₙ m c ∗ ∃ W, owes (c : Thread nD τ) (0 : CellTallies nD τ sig Unit) W)
      unfold R'
      iintro ⟨Hh, Hb, HO⟩
      isplitr [HO]
      · isplitl [Hh] <;> iassumption
      · iexact HO)
    (hinit := init m ρ)
    (QY := fun c s => (s.mem ((c.tc : Thread nD τ).loc main_arg0) = U3 m c (Proc.devRef .tc main_arg0) ∧ s.mem ((c.tc : Thread nD τ).loc main_arg1) = U3 m c (Proc.devRef .tc main_arg1)
      ∧ s.mem ((c.tc : Thread nD τ).loc main_arg2) = U3 m c (Proc.devRef .tc main_arg2) ∧ s.mem ((c.tc : Thread nD τ).loc main_v5) = U3 m c (Proc.devRef .tc main_v5))
      ∧ s.sem ((c : Thread nD τ), .reg 0) = 0)
    (hfin := fun c s' => by
      dsimp only [Tₙ]; rw [held_all]; unfold Yk
      iintro ⟨⟨⟨H0, H1, H2, -, -, -, -, H5⟩, Hb⟩, HSI⟩
      icombine HSI H0 gives %h0
      icombine HSI H1 gives %h1
      icombine HSI H2 gives %h2
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h5⟩, by simpa using hb⟩
      iexact HSI)
    (hQ := fun s h hz => ⟨fun c => by
        obtain ⟨⟨h0, h1, h2, h5⟩, -⟩ := h c
        rw [U3_arg m c main_arg0 (by decide) (by decide) (by decide) (by decide) (by decide)] at h0
        rw [U3_arg m c main_arg1 (by decide) (by decide) (by decide) (by decide) (by decide)] at h1
        rw [U3_arg m c main_arg2 (by decide) (by decide) (by decide) (by decide) (by decide)] at h2
        rw [U3_v5] at h5
        exact ⟨h0, h1, h2, h5⟩,
      sem_eq_zero hz fun c sm hsm => by
        obtain rfl := free_eq sm hsm
        exact (h c).2⟩)

end Cert.KernelIdeal.Hand

end
-- ==== Proof.Frames.lean ====
/- The frames and the ledger's entry. The launch theorem (`run_main`, Proof/Launch.lean) holds for any float
   values with the named constant, so it gives the idealized kernel's frame directly, and the kernel's own by reading
   the named constant as its bits. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.SL.Sem

/-- A named constant at `Bits`: the word it was printed with. -/
local instance namedBits : Named Bits where
  named _ _ {φ} bits := FloatOps.ofBits φ bits

/-- The idealized kernel ends, its arguments unchanged and every counter at zero. -/
theorem frame_pi : Cert.quiescent_KernelIdeal := fun m g _ =>
  (θ_run Cert.KernelIdeal.defs _ _).mono (fun _ h => ⟨fun c => ⟨(h.1 c).1, (h.1 c).2.1, (h.1 c).2.2.1⟩, h.2⟩)
    (Cert.KernelIdeal.Hand.run_main (F := Ideal) m g)

/-- The same under the precondition, which it does not need. -/
theorem frame_pi_pre : Cert.quiescent_KernelIdeal_pre_finite_KernelIdeal := fun m g _ =>
  (θ_run Cert.KernelIdeal.defs _ _).mono (fun _ h => ⟨fun c => ⟨(h.1 c).1, (h.1 c).2.1, (h.1 c).2.2.1⟩, h.2⟩)
    (Cert.KernelIdeal.Hand.run_main (F := Ideal) m g)

/-- The kernel's run is the idealized one's at `Bits`, the named constant being the printed word. -/
theorem frame_p : Cert.quiescent_Kernel := fun m g _ =>
  (θ_run Cert.Kernel.defs _ _).mono (fun _ h => ⟨fun c => ⟨(h.1 c).1, (h.1 c).2.1, (h.1 c).2.2.1⟩, h.2⟩)
    (Cert.KernelIdeal.Hand.run_main (F := Bits) m g)

/-- The reference ends, its arguments unchanged; it has no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same under the precondition. -/
theorem frame_ri_pre : Cert.quiescent_ReferenceIdeal_pre_finite_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The ledger's one entry: the table gives `qscale` the value 1/(8 ln 2). -/
theorem preserves : Cert.preserves_Kernel_KernelIdeal :=
  IdealRules.named_const.statement Cert.KernelIdeal.κ "qscale" .f32 0x3E38AA3B#32 (((8 * (Real.log 2))⁻¹ : ℝ) : EReal) rfl

end Cert.Proof

end
-- ==== Proof.Softmax.lean ====
/- The mathematics: a softmax's weights by powers of two without a shift, and by exponentials shifted by any real, are
   the same numbers; and a sum over 1024 keys is the sum over either half plus the sum over the other. -/
module

public import Idealize.ShloMosaic.PureOps.Ideal
public import Idealize.ShloMosaic.Lib.Pointwise

@[expose] public section

noncomputable section

namespace Cert.Softmax

open Idealize.ShloMosaic

/-- The name's value: the scale 1/8 of the scores over the logarithm of two. -/
abbrev qs : ℝ := (8 * Real.log 2)⁻¹

/-- A sum of extended reals times a real that is not negative. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction with
  | empty => simp
  | insert a s ha ih =>
    rw [Finset.sum_insert ha, Finset.sum_insert ha, ← ih,
      EReal.right_distrib_of_nonneg_of_ne_top (by exact_mod_cast hc) (EReal.coe_ne_top c)]

/-- A sum of reals, taken among the extended reals. -/
theorem coe_sum {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- The maximum of some reals is a real. -/
theorem fold_max_real {ι : Type} (s : Finset ι) (hs : s.Nonempty) (f : ι → ℝ) :
    ∃ M : ℝ, s.fold max ⊥ (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM, EReal.coe_strictMono.monotone.map_max]⟩

/-- A power of two at a scaled score is the exponential of an eighth of it. -/
theorem rpow_qs (x : ℝ) : Real.rpow 2 (x * qs) = Real.exp (x / 8) := by
  have h : Real.log 2 ≠ 0 := (Real.log_pos one_lt_two).ne'
  show (2 : ℝ) ^ (x * qs) = _
  rw [Real.rpow_def_of_pos two_pos]
  congr 1
  unfold qs
  field_simp

/-- The scaled score among the extended reals. -/
theorem score {ι : Type} [Fintype ι] (k q : ι → ℝ) :
    ∑ d, (k d : EReal) * ((q d : EReal) * (qs : EReal)) = (((∑ d, q d * k d) * qs : ℝ) : EReal) := by
  rw [Finset.sum_mul, ← coe_sum]
  refine Finset.sum_congr rfl fun d _ => ?_
  rw [← EReal.coe_mul, ← EReal.coe_mul]
  congr 1; ring

/-- The plain score among the extended reals. -/
theorem score' {ι : Type} [Fintype ι] (k q : ι → ℝ) :
    (∑ d, (q d : EReal) * (k d : EReal)) * (((1 : ℝ) / 8 : ℝ) : EReal) = (((∑ d, q d * k d) / 8 : ℝ) : EReal) := by
  simp only [← EReal.coe_mul]
  rw [coe_sum, ← EReal.coe_mul]
  congr 1; ring

/-- Values weighed by powers of two and divided by their sum at the end, and values weighed by shifted exponentials that
    were divided by their sum first. -/
theorem weighed {ι : Type} [Fintype ι] [Nonempty ι] (r : ι → ℝ) (V : ι → EReal) (M : ℝ) :
    (∑ j, V j * Ideal.exp2 ((r j * qs : ℝ) : EReal)) * Ideal.div 1 (∑ j, Ideal.exp2 ((r j * qs : ℝ) : EReal))
      = ∑ j, V j * Ideal.div (Ideal.exp (((r j / 8 : ℝ) : EReal) - (M : EReal)))
          (0 + ∑ i, Ideal.exp (((r i / 8 : ℝ) : EReal) - (M : EReal))) := by
  have hL : 0 < ∑ j, Real.exp (r j / 8) := Finset.sum_pos (fun j _ => Real.exp_pos _) Finset.univ_nonempty
  have hL' : 0 < ∑ j, Real.exp (r j / 8 - M) := Finset.sum_pos (fun j _ => Real.exp_pos _) Finset.univ_nonempty
  simp only [Ideal.exp2_coe, rpow_qs, ← EReal.coe_sub, Ideal.exp_coe, zero_add]
  rw [coe_sum, coe_sum, Ideal.div_coe hL.ne', one_mul, sum_mul_coe _ _ (by positivity)]
  refine Finset.sum_congr rfl fun j _ => ?_
  rw [Ideal.div_coe hL'.ne', mul_assoc, ← EReal.coe_mul, ← EReal.coe_mul]
  congr 2
  have : ∑ i, Real.exp (r i / 8 - M) = (∑ i, Real.exp (r i / 8)) * Real.exp (-M) := by
    rw [Finset.sum_mul]
    exact Finset.sum_congr rfl fun i _ => by rw [← Real.exp_add, sub_eq_add_neg]
  rw [this, sub_eq_add_neg, Real.exp_add]
  have := Real.exp_ne_zero (-M)
  field_simp

/-- The position of key `j` of half `p` among all the keys. -/
def pos (p : Fin 2) (j : Fin 512) : Fin 1024 := ⟨p.val * 512 + j.val, by omega⟩

/-- Either half of a sum and the other. -/
theorem halves (p : Fin 2) (f : Fin 1024 → EReal) :
    (∑ j, f (pos p j)) + (∑ j, f (pos (1 - p) j)) = ∑ j, f j := by
  have h : ∑ j, f j = (∑ j, f (pos 0 j)) + (∑ j, f (pos 1 j)) := by
    rw [Fin.sum_univ_add (a := 512) (b := 512) f]
    congr 1
  rw [h]
  obtain rfl | rfl : p = 0 ∨ p = 1 := by omega
  · rfl
  · exact add_comm _ _

end Cert.Softmax

end
-- ==== Proof.KernelValue.lean ====
/- What the kernel computes: a device's result, read at an index. -/
module

public import proofs.«01_k».proof.Proof.Launch
public import proofs.«01_k».proof.Proof.Softmax
public import Idealize.ShloMosaic.Lib.Pointwise

@[expose] public section

noncomputable section

namespace Cert.KernelIdeal.Hand

open Idealize.ShloMosaic Idealize.ShloMosaic.TcCoe Idealize.SL.Sem
open Cert.KernelIdeal.Gen Cert.Softmax

/-- Where an element of a head's rectangle is in its tile. -/
theorem emb_rH (b : Fin 2) (h : Fin 8) (inb : ∀ a, (![b.val, h.val, 0, 0] : Fin 4 → ℕ) a + S1x1x64x512.size a ≤ S2x8x64x512.size a) (d : Fin 64) (j : Fin 512) :
    (rH ![b.val, h.val, 0, 0] inb).emb (ix4 0 0 d j) = ix4 b h d j := by
  funext a
  fin_cases a
  · exact Fin.ext (by show b.val + 1 * 0 = b.val; omega)
  · exact Fin.ext (by show h.val + 1 * 0 = h.val; omega)
  · exact Fin.ext (by show 0 + 1 * d.val = d.val; omega)
  · exact Fin.ext (by show 0 + 1 * j.val = j.val; omega)

/-- A head's scaled queries. -/
theorem qH_at (b : Fin 2) (h : Fin 8) (inb : ∀ a, (![b.val, h.val, 0, 0] : Fin 4 → ℕ) a + S1x1x64x512.size a ≤ S2x8x64x512.size a)
    (q : Tile Ideal .f32) (d : Fin 64) (s : Fin 512) :
    qH ![b.val, h.val, 0, 0] inb (k0_pay6 q (Named.named κ "qscale" 0x3E38AA3B#32)) (ix2 d s) = q (ix4 b h d s) * (qs : EReal) := by
  pointwise [qH, k0_pay6]
  rfl

/-- The powers of the scores. -/
theorem eH_at (k q : FVec Ideal S64x512 .bf16) (j s : Fin 512) :
    eH k q (ix2 j s) = Ideal.exp2 (∑ d : Fin 64, k (ix2 d j) * q (ix2 d s)) := by
  pointwise [eH]
  rfl

/-- Their sums over the keys. -/
theorem lH_at (e : FVec Ideal S512x512 .f32) (s : Fin 512) : lH e (ix2 0 s) = ∑ j : Fin 512, e (ix2 j s) := by
  pointwise [lH]

/-- The values weighed by the powers. -/
theorem aH_at (v : FVec Ideal S64x512 .bf16) (e : FVec Ideal S512x512 .f32) (d : Fin 64) (s : Fin 512) :
    aH v e (ix2 d s) = ∑ j : Fin 512, v (ix2 d j) * e (ix2 j s) := by
  pointwise [aH]

/-- A head's output: both halves' weighed values over both halves' sums. -/
theorem oH_at (l l' : FVec Ideal S1x512 .f32) (a a' : FVec Ideal S64x512 .f32) (d : Fin 64) (s : Fin 512) :
    oH l l' a a' (ix4 0 0 d s) = (a (ix2 d s) + a' (ix2 d s)) * Ideal.div 1 (l (ix2 0 s) + l' (ix2 0 s)) := by
  pointwise [oH]

/-- The power of two of the score of a query against a key. -/
def power (q k : S2x8x64x512.Idx → EReal) (b : Fin 2) (h : Fin 8) (j s : Fin 512) : EReal :=
  Ideal.exp2 (∑ d : Fin 64, k (ix4 b h d j) * (q (ix4 b h d s) * (qs : EReal)))

/-- A head's block as a matrix. -/
theorem cast_at {α : Type} (x : S1x1x64x512.Idx → α) (d : Fin 64) (j : Fin 512) :
    shapeCast S64x512 x shapeCasts_S1x1x64x512_S64x512 (ix2 d j) = x (ix4 0 0 d j) := by
  pointwise []

/-- The output tile, from the queries and both halves of the keys and values. -/
theorem outT_at (q k v : Tile Ideal .f32) (ko : Tile Ideal .bf16) (vo : Tile Ideal .fp8e4m3) (b : Fin 2) (h : Fin 8) (d : Fin 64) (s : Fin 512) :
    outT q k v ko vo (ix4 b h d s)
      = ((∑ j, v (ix4 b h d j) * power q k b h j s) + ∑ j, vo (ix4 b h d j) * power q ko b h j s)
          * Ideal.div 1 ((∑ j, power q k b h j s) + ∑ j, power q ko b h j s) := by
  rw [← emb_rH b h (inbH b h) d s, outT_emb]
  unfold headVec
  have h1 : ∀ e j, ((Memref.whole cc0_scratch1).view.readAt (Elt Ideal) (rH ![b.val, h.val, 0, 0] (inbH b h)).toLoadRect k) (ix4 0 0 e j) = k (ix4 b h e j) :=
    fun e j => by rw [← emb_rH b h (inbH b h) e j]; rfl
  have h2 : ∀ e j, ((Memref.whole cc0_scratch2).view.readAt (Elt Ideal) (rH ![b.val, h.val, 0, 0] (inbH b h)).toLoadRect v) (ix4 0 0 e j) = v (ix4 b h e j) :=
    fun e j => by rw [← emb_rH b h (inbH b h) e j]; rfl
  have h5 : ∀ e j, ((Memref.whole cc0_scratch5).view.readAt (Elt Ideal) (rH ![b.val, h.val, 0, 0] (inbH b h)).toLoadRect ko) (ix4 0 0 e j) = ko (ix4 b h e j) :=
    fun e j => by rw [← emb_rH b h (inbH b h) e j]; rfl
  have h6 : ∀ e j, ((Memref.whole cc0_scratch6).view.readAt (Elt Ideal) (rH ![b.val, h.val, 0, 0] (inbH b h)).toLoadRect vo) (ix4 0 0 e j) = vo (ix4 b h e j) :=
    fun e j => by rw [← emb_rH b h (inbH b h) e j]; rfl
  rw [oH_at]
  simp only [lH_at, aH_at, eH_at, qH_at, truncf_apply, extf_apply, Ideal.truncf_def, Ideal.extf_def, cast_at, h1, h2, h5, h6]
  rfl

variable (m : (ℓ : Loc nD τ sig) → Buf (Elt Ideal) ℓ) (c : Dev nD)

/-- The queries that the body reads: the argument, the sequence moved last. -/
theorem QT_at (b : Fin 2) (h : Fin 8) (d : Fin 64) (s : Fin 512) :
    QT m c (ix4 b h d s) = (m ((c.tc : Thread nD τ).loc main_arg0) : S2x512x8x64.Idx → EReal) (ix4 b s h d) := by
  have e : QT m c = transpose S2x8x64x512 [0, 2, 3, 1] (m ((c.tc : Thread nD τ).loc main_arg0)) transposes_S2x512x8x64_S2x8x64x512_0_2_3_1 := by
    unfold QT U1 hostOps0
    after_results
  rw [e]
  pointwise []

/-- The keys that it reads. -/
theorem KT_at (b : Fin 2) (h : Fin 8) (d : Fin 64) (s : Fin 512) :
    KT m c (ix4 b h d s) = (m ((c.tc : Thread nD τ).loc main_arg1) : S2x512x8x64.Idx → EReal) (ix4 b s h d) := by
  have e : KT m c = transpose S2x8x64x512 [0, 2, 3, 1] (m ((c.tc : Thread nD τ).loc main_arg1)) transposes_S2x512x8x64_S2x8x64x512_0_2_3_1 := by
    unfold KT U1 hostOps0
    after_results
  rw [e]
  pointwise []

/-- The values that it reads. -/
theorem VT_at (b : Fin 2) (h : Fin 8) (d : Fin 64) (s : Fin 512) :
    VT m c (ix4 b h d s) = (m ((c.tc : Thread nD τ).loc main_arg2) : S2x512x8x64.Idx → EReal) (ix4 b s h d) := by
  have e : VT m c = transpose S2x8x64x512 [0, 2, 3, 1] (m ((c.tc : Thread nD τ).loc main_arg2)) transposes_S2x512x8x64_S2x8x64x512_0_2_3_1 := by
    unfold VT U1 hostOps0
    after_results
  rw [e]
  pointwise []

/-- The result: the output tile, the sequence moved back. -/
theorem result_at (b : Fin 2) (s : Fin 512) (h : Fin 8) (d : Fin 64) :
    result m c (ix4 b s h d) = Z (KT m) (VT m) (QT m) c (ix4 b h d s) := by
  pointwise [result]

end Cert.KernelIdeal.Hand

end
-- ==== Proof.RefValue.lean ====
/- What the reference computes: its result, read at an index. -/
module

public import proofs.«01_k».proof.Proof.Softmax
public import proofs.«01_k».proof.Proof.Gen.ReferenceIdeal
public import proofs.«01_k».proof.Proof.Gen.ReferenceIdeal.Run
public import Idealize.ShloMosaic.Lib.Pointwise

@[expose] public section

noncomputable section

namespace Cert.ReferenceIdeal.Hand

open Idealize.ShloMosaic Idealize.ShloMosaic.TcCoe
open Cert.ReferenceIdeal Cert.ReferenceIdeal.Gen Cert.Softmax

/-- An array of the problem. -/
abbrev Arr := FVec Ideal S2x1024x8x64 .f32
/-- A matrix of queries by keys for every batch row and head. -/
abbrev Mat := FVec Ideal S2x8x1024x1024 .f32

/-- The reference's scale. -/
theorem ofBits_eighth : Ideal.ofBits .f32 0x3E000000#32 = (((1 : ℝ) / 8 : ℝ) : EReal) := by
  simp [Ideal.ofBits, Ideal.ieee, -EReal.coe_mul]; norm_num
/-- Where its maxima start. -/
theorem ofBits_neg_inf : Ideal.ofBits .f32 0xFF800000#32 = ⊥ := by
  simp [Ideal.ofBits, Ideal.ieee]

/-- The scores. -/
def sc (Q K : Arr) : Mat :=
  mulf (Host.dotGeneral dot_S2x1024x8x64_S2x1024x8x64_S2x8x1024x1024_3_3_1_1_02_02 none Q K) (broadcastInDim S2x8x1024x1024 ![] bcast_S_S2x8x1024x1024 (constant S_ .f32 0x3E000000#32))
/-- Every row's maximum, along the row. -/
def rowMax (x : Mat) : Mat :=
  broadcastInDim S2x8x1024x1024 ![0, 1, 2, 3] bcast_S2x8x1024x1_S2x8x1024x1024_0_1_2_3 (broadcastInDim S2x8x1024x1 ![0, 1, 2] bcast_S2x8x1024_S2x8x1024x1_0_1_2 (Host.reduce FloatOps.maximumf x (constant S_ .f32 0xFF800000#32) reducesTo_S2x8x1024x1024_S2x8x1024_d3 h_S_))
/-- Every row's sum, along the row. -/
def rowSum (x : Mat) : Mat :=
  broadcastInDim S2x8x1024x1024 ![0, 1, 2, 3] bcast_S2x8x1024x1_S2x8x1024x1024_0_1_2_3 (broadcastInDim S2x8x1024x1 ![0, 1, 2] bcast_S2x8x1024_S2x8x1024x1_0_1_2 (Host.reduceAdd x (constant S_ .f32 0x00000000#32) reducesTo_S2x8x1024x1024_S2x8x1024_d3 h_S_))
/-- The exponentials of scores shifted by their row's maximum. -/
def ex (x : Mat) : Mat := Host.exp (subf x (rowMax x))
/-- The reference's result. -/
def out (Q K V : Arr) : Arr :=
  transpose S2x1024x8x64 [0, 3, 1, 2] (Host.dotGeneral dot_S2x1024x8x64_S2x8x1024x1024_S2x8x64x1024_1_3_3_2_02_01 none V (Host.divf (ex (sc Q K)) (rowSum (ex (sc Q K))))) transposes_S2x8x64x1024_S2x1024x8x64_0_3_1_2

/-- A score: the product of a query and a key, over eight. -/
theorem sc_at (Q K : Arr) (b : Fin 2) (h : Fin 8) (s j : Fin 1024) :
    sc Q K (ix4 b h s j) = (∑ d : Fin 64, Q (ix4 b s h d) * K (ix4 b j h d)) * (((1 : ℝ) / 8 : ℝ) : EReal) := by
  rw [← ofBits_eighth]
  pointwise [sc]

/-- A row's maximum. -/
theorem rowMax_at (x : Mat) (b : Fin 2) (h : Fin 8) (s j : Fin 1024) :
    rowMax x (ix4 b h s j) = Finset.univ.fold max ⊥ (fun k : Fin 1024 => x (ix4 b h s k)) := by
  rw [← ofBits_neg_inf]
  pointwise [rowMax]

/-- A row's sum. -/
theorem rowSum_at (x : Mat) (b : Fin 2) (h : Fin 8) (s j : Fin 1024) :
    rowSum x (ix4 b h s j) = 0 + ∑ k : Fin 1024, x (ix4 b h s k) := by
  pointwise [rowSum]

/-- A shifted exponential. -/
theorem ex_at (x : Mat) (b : Fin 2) (h : Fin 8) (s j : Fin 1024) :
    ex x (ix4 b h s j) = Ideal.exp (x (ix4 b h s j) - Finset.univ.fold max ⊥ (fun k : Fin 1024 => x (ix4 b h s k))) := by
  rw [← rowMax_at x b h s j]
  pointwise [ex]

/-- The result at an index, from the exponentials. -/
theorem out_at (Q K V : Arr) (b : Fin 2) (h : Fin 8) (s : Fin 1024) (d : Fin 64) :
    out Q K V (ix4 b s h d)
      = ∑ j : Fin 1024, V (ix4 b j h d) * Ideal.div (ex (sc Q K) (ix4 b h s j)) (rowSum (ex (sc Q K)) (ix4 b h s j)) := by
  pointwise [out]

/-- Where the queries of a position and the keys of its head are real, the reference's result there is the values
    weighed by powers of two over the sum of those powers. -/
theorem out_real (Q K V : Arr) (b : Fin 2) (h : Fin 8) (s : Fin 1024) (d : Fin 64) (q : Fin 64 → ℝ) (k : Fin 1024 → Fin 64 → ℝ)
    (hq : ∀ e, Q (ix4 b s h e) = (q e : EReal)) (hk : ∀ j e, K (ix4 b j h e) = (k j e : EReal)) :
    out Q K V (ix4 b s h d)
      = (∑ j, V (ix4 b j h d) * Ideal.exp2 (((∑ e, q e * k j e) * qs : ℝ) : EReal))
          * Ideal.div 1 (∑ j, Ideal.exp2 (((∑ e, q e * k j e) * qs : ℝ) : EReal)) := by
  have hs : ∀ j, sc Q K (ix4 b h s j) = (((∑ e, q e * k j e) / 8 : ℝ) : EReal) := fun j => by
    rw [sc_at, ← score']
    simp only [hq, hk]
  obtain ⟨M, hM⟩ := fold_max_real Finset.univ Finset.univ_nonempty fun j : Fin 1024 => (∑ e, q e * k j e) / 8
  rw [weighed (fun j => ∑ e, q e * k j e) (fun j => V (ix4 b j h d)) M, out_at]
  simp only [rowSum_at, ex_at, hs, hM]

end Cert.ReferenceIdeal.Hand

end
-- ==== Proof.Algebraic.lean ====
/- Every device's result is its block of the reference's: a device holds the keys of its half of the sequence and gets
   the other half's from its partner, so that the two sums of the kernel are the two halves of the reference's. -/
module

public import proofs.«01_k».proof.Defs
public import proofs.«01_k».proof.Proof.KernelValue
public import proofs.«01_k».proof.Proof.RefValue
public import proofs.«01_k».proof.Proof.Gen.Pre_finite_KernelIdeal
public import Idealize.ShloMosaic.Lib.ReduceAll

@[expose] public section

noncomputable section

namespace Cert.Proof

open Idealize.ShloMosaic Idealize.ShloMosaic.TcCoe Idealize.SL.Sem
open Cert.KernelIdeal Cert.KernelIdeal.Hand Cert.Softmax

/-- One device's block of an array. -/
abbrev Blk := (⟨4, ![2, 512, 8, 64]⟩ : Shape).Idx → EReal
/-- A whole array. -/
abbrev Whole := (⟨4, ![2, 1024, 8, 64]⟩ : Shape).Idx → EReal

/-- Device `c`'s block of a whole array. -/
abbrev blk (c : Dev nD) (X : Whole) : Blk :=
  Layout.blockN ⟨4, ![2, 512, 8, 64]⟩ ⟨4, ![2, 1024, 8, 64]⟩ (Layout.meshBlock [2, 2, 2] ![[], [2], [], []] c) X

/-- The half of the sequence that device `c` holds: its place on the mesh's last axis. -/
def half (c : Dev nD) : Fin 2 := ⟨c.val % 2, Nat.mod_lt _ two_pos⟩

/-- A device's partner holds the other half. -/
theorem half_peer (c : Dev nD) : half (peer c) = 1 - half c := by revert c; decide

/-- Device `c`'s block read at an index. -/
theorem blk_at (c : Dev nD) (X : Whole) (b : Fin 2) (s : Fin 512) (h : Fin 8) (d : Fin 64) :
    blk c X (ix4 b s h d) = X (ix4 b (pos (half c) s) h d) := by
  have hl : Layout.meshLin [2, 2, 2] c.val [2] = c.val % 2 := by revert c; decide
  refine congrArg X ?_
  funext a
  fin_cases a
  · exact Fin.ext (by show 0 * 2 + b.val = b.val; omega)
  · exact Fin.ext (by show Layout.meshLin [2, 2, 2] c.val [2] * 512 + s.val = c.val % 2 * 512 + s.val; rw [hl])
  · exact Fin.ext (by show 0 * 8 + h.val = h.val; omega)
  · exact Fin.ext (by show 0 * 64 + d.val = d.val; omega)

/-- An array whose blocks are real is real. -/
theorem real_of_blocks (X : Whole) (hX : ∀ (c : Dev nD) i, ∃ r : ℝ, blk c X i = (r : EReal)) (b : Fin 2) (s : Fin 1024) (h : Fin 8) (d : Fin 64) :
    ∃ r : ℝ, X (ix4 b s h d) = (r : EReal) := by
  have hs := s.isLt
  obtain ⟨r, hr⟩ := hX ⟨s.val / 512, by show _ < 8; omega⟩ (ix4 b ⟨s.val % 512, Nat.mod_lt _ (by omega)⟩ h d)
  refine ⟨r, ?_⟩
  rw [← hr, blk_at]
  congr 2
  exact Fin.ext (by show s.val = s.val / 512 % 2 * 512 + s.val % 512; omega)

/-- An element whose absolute value is below infinity is real. -/
theorem real_of_abs (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have hlt : max x (-x) < ⊤ := by
    by_contra hn
    have : BitVec.ofBool (decide (max x (-x) < Ideal.ofBits .f32 0x7F800000#32)) = 1#1 := h
    rw [htop, decide_eq_false hn] at this
    exact absurd this (by decide)
  induction x using EReal.rec with
  | bot => exact absurd hlt (by simp)
  | top => exact absurd hlt (by simp)
  | coe r => exact ⟨r, rfl⟩

/-- What the precondition says: a device's queries and keys are real. -/
theorem real_of_pre (q k v : Blk) (h : Cert.Pre_finite_KernelIdeal.fn (F := Ideal) q k v = fun _ => 1#1) :
    (∀ i, ∃ r : ℝ, q i = (r : EReal)) ∧ ∀ i, ∃ r : ℝ, k i = (r : EReal) := by
  have : Subsingleton Cert.Pre_finite_KernelIdeal.S_.Idx := ⟨fun _ _ => funext fun a => a.elim0⟩
  have h0 := congrFun h ix0
  have two : ∀ x y : BitVec 1, x &&& y = 1#1 → x = 1#1 ∧ y = 1#1 := by decide
  obtain ⟨hq, hk⟩ := two _ _ h0
  exact ⟨fun i => real_of_abs _ (Host.reduce_andi_all _ _ _ _ _ hq i), fun i => real_of_abs _ (Host.reduce_andi_all _ _ _ _ _ hk i)⟩

/-- The kernel's value on device `c`, from the whole arrays, where queries and keys are real. -/
theorem value (m : (ℓ : Loc nD τ sig) → Buf (Elt Ideal) ℓ) (Q K V : Whole)
    (hQ : ∀ c : Dev nD, m ((c.tc : Thread nD τ).loc main_arg0) = blk c Q) (hK : ∀ c : Dev nD, m ((c.tc : Thread nD τ).loc main_arg1) = blk c K)
    (hV : ∀ c : Dev nD, m ((c.tc : Thread nD τ).loc main_arg2) = blk c V)
    (rQ : ∀ (c : Dev nD) i, ∃ r : ℝ, blk c Q i = (r : EReal)) (rK : ∀ (c : Dev nD) i, ∃ r : ℝ, blk c K i = (r : EReal)) (c : Dev nD) :
    result m c = blk c (Cert.ReferenceIdeal.Hand.out Q K V) := by
  funext i
  obtain ⟨b, s, h, d, rfl⟩ : ∃ (b : Fin 2) (s : Fin 512) (h : Fin 8) (d : Fin 64), i = ix4 b s h d := ⟨i 0, i 1, i 2, i 3, eq_ix4 i⟩
  choose q hq using fun e : Fin 64 => real_of_blocks Q rQ b (pos (half c) s) h e
  choose k hk using fun (j : Fin 1024) (e : Fin 64) => real_of_blocks K rK b j h e
  rw [blk_at, Cert.ReferenceIdeal.Hand.out_real Q K V b h (pos (half c) s) d q k hq hk, result_at]
  have own : ∀ c' : Dev nD, ∀ j, power (QT m c) (KT m c') b h j s = Ideal.exp2 (((∑ e, q e * k (pos (half c') j) e) * qs : ℝ) : EReal) := fun c' j => by
    unfold power
    rw [← score]
    simp only [KT_at, QT_at, hQ, hK, blk_at, hq, hk]
  have vals : ∀ c' : Dev nD, ∀ j, VT m c' (ix4 b h d j) = V (ix4 b (pos (half c') j) h d) := fun c' j => by
    rw [VT_at, hV, blk_at]
  have eK : ∀ x : Tile Ideal .f32, (K8 x : S2x8x64x512.Idx → EReal) = x := fun _ => rfl
  have eV : ∀ x : Tile Ideal .f32, (V8 x : S2x8x64x512.Idx → EReal) = x := fun _ => rfl
  unfold Z
  rw [outT_at, eK, eV]
  simp only [own, vals, half_peer]
  rw [halves (half c) fun j => Ideal.exp2 (((∑ e, q e * k j e) * qs : ℝ) : EReal),
    halves (half c) fun j => V (ix4 b j h d) * Ideal.exp2 (((∑ e, q e * k j e) * qs : ℝ) : EReal)]

/-- For finite queries and keys, each device's result is its block of the reference's. -/
theorem algebraic : Cert.algebraic_KernelIdeal_ReferenceIdeal_pre_finite_KernelIdeal := by
  intro m g m' g' hpre hblk
  have hr := fun c => real_of_pre _ _ _ (hpre c)
  let A (r : Ref Cert.ReferenceIdeal.sig .tc) := m' (((0 : Dev Cert.ReferenceIdeal.nD).tc : Thread Cert.ReferenceIdeal.nD Cert.ReferenceIdeal.τ).loc r)
  refine ⟨Cert.ReferenceIdeal.Hand.out (A Cert.ReferenceIdeal.main_arg0) (A Cert.ReferenceIdeal.main_arg1) (A Cert.ReferenceIdeal.main_arg2), ?_, ?_⟩
  · refine (θ_run Cert.KernelIdeal.defs _ _).mono (fun _ h c => ⟨(h.1 c).2.2.2.trans ?_, (h.1 c).1, (h.1 c).2.1, (h.1 c).2.2.1⟩) (run_main (F := Ideal) m g)
    exact value m (A Cert.ReferenceIdeal.main_arg0) (A Cert.ReferenceIdeal.main_arg1) (A Cert.ReferenceIdeal.main_arg2) (fun c => (hblk c).1) (fun c => (hblk c).2.1) (fun c => (hblk c).2.2)
      (fun c i => (hr c).1 i |>.imp fun r e => (congrFun (hblk c).1 i).symm.trans e) (fun c i => (hr c).2 i |>.imp fun r e => (congrFun (hblk c).2.1 i).symm.trans e) c
  · exact (θ_run Cert.ReferenceIdeal.defs _ _).mono (fun _ h => h 0) (Cert.ReferenceIdeal.Value.run (F := Ideal) m' g')

end Cert.Proof

end
-- ==== Proof.lean ====
/- The certificate's claims, put together: the frames and the ledger (Proof/Frames.lean) and the value
   (Proof/Algebraic.lean). -/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_p, frame_pi, frame_pi_pre, frame_ri, frame_ri_pre, preserves, algebraic⟩

end Cert.Proof

end
